-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x21x64x64 : Shape := ⟨4, ![2, 21, 64, 64]⟩
abbrev S2x3x64x64 : Shape := ⟨4, ![2, 3, 64, 64]⟩
abbrev S_ : Shape := ⟨0, ![]⟩

class Facts : Prop where
  bcast_S_S2x3x64x64 : S_.BroadcastsInDim S2x3x64x64 (![] : Fin 0 → Fin S2x3x64x64.rank)
  reducesTo_S2x3x64x64_S_d0_1_2_3 : S2x3x64x64.ReducesTo [0, 1, 2, 3] S_
  h_S_ : 0 < S_.numel

variable [Facts]

def fn {F : FTy → Type} [FloatOps F] (main_arg0 : FVec F S2x21x64x64 .f32) (main_arg1 : FVec F S2x3x64x64 .f32) : IVec S_ 1 :=
  let main_cst : FVec F S_ .f32 := constant S_ .f32 0xFF800000#32
  let main_v0 : FVec F S2x3x64x64 .f32 := broadcastInDim S2x3x64x64 ![] bcast_S_S2x3x64x64 main_cst
  let main_v1 : IVec S2x3x64x64 1 := cmpf .ogt main_arg1 main_v0
  let main_cst_0 : FVec F S_ .f32 := constant S_ .f32 0x7F800000#32
  let main_v2 : FVec F S2x3x64x64 .f32 := broadcastInDim S2x3x64x64 ![] bcast_S_S2x3x64x64 main_cst_0
  let main_v3 : IVec S2x3x64x64 1 := cmpf .olt main_arg1 main_v2
  let main_v4 : IVec S2x3x64x64 1 := andi main_v1 main_v3
  let main_c : IVec S_ 1 := constantI S_ 1 1#1
  let main_v5 : IVec S_ 1 := (fun x v => Host.reduce IntOp.andi x v reducesTo_S2x3x64x64_S_d0_1_2_3 h_S_) main_v4 main_c
  main_v5
-- ==== Kernel.lean ====
abbrev S2x21x64x64 : Shape := ⟨4, ![2, 21, 64, 64]⟩
abbrev S2x3x64x64 : Shape := ⟨4, ![2, 3, 64, 64]⟩
abbrev S64x64 : Shape := ⟨2, ![64, 64]⟩
abbrev S4096 : Shape := ⟨1, ![4096]⟩
abbrev S_ : Shape := ⟨0, ![]⟩
abbrev S2x3x4096 : Shape := ⟨3, ![2, 3, 4096]⟩
abbrev S2x4096x3 : Shape := ⟨3, ![2, 4096, 3]⟩
abbrev S1x4096x1 : Shape := ⟨3, ![1, 4096, 1]⟩
abbrev S2x4096 : Shape := ⟨2, ![2, 4096]⟩
abbrev S2x4096x1 : Shape := ⟨3, ![2, 4096, 1]⟩
abbrev S4096x1 : Shape := ⟨2, ![4096, 1]⟩
abbrev S4096x2 : Shape := ⟨2, ![4096, 2]⟩
abbrev S1x4096x2 : Shape := ⟨3, ![1, 4096, 2]⟩
abbrev S2x4096x2 : Shape := ⟨3, ![2, 4096, 2]⟩
abbrev S2x4096x8 : Shape := ⟨3, ![2, 4096, 8]⟩
abbrev S2x4096x4096 : Shape := ⟨3, ![2, 4096, 4096]⟩
abbrev S2x1x4096 : Shape := ⟨3, ![2, 1, 4096]⟩
abbrev S1x512x8 : Shape := ⟨3, ![1, 512, 8]⟩
abbrev S1x4096x8 : Shape := ⟨3, ![1, 4096, 8]⟩
abbrev S1x21x8x64 : Shape := ⟨4, ![1, 21, 8, 64]⟩
abbrev S1x512x4096 : Shape := ⟨3, ![1, 512, 4096]⟩
abbrev S1x1x512 : Shape := ⟨3, ![1, 1, 512]⟩
abbrev S512x8 : Shape := ⟨2, ![512, 8]⟩
abbrev S4096x8 : Shape := ⟨2, ![4096, 8]⟩
abbrev S512x4096 : Shape := ⟨2, ![512, 4096]⟩
abbrev S512 : Shape := ⟨1, ![512]⟩
abbrev S21x8x64 : Shape := ⟨3, ![21, 8, 64]⟩
abbrev S8x64 : Shape := ⟨2, ![8, 64]⟩
abbrev S1x8x64 : Shape := ⟨3, ![1, 8, 64]⟩
abbrev S19 : Shape := ⟨1, ![19]⟩
abbrev S1x21x64x64 : Shape := ⟨4, ![1, 21, 64, 64]⟩
abbrev S1x1x4096 : Shape := ⟨3, ![1, 1, 4096]⟩
abbrev S1x4096x1024 : Shape := ⟨3, ![1, 4096, 1024]⟩
abbrev S1x1x1024 : Shape := ⟨3, ![1, 1, 1024]⟩
abbrev S1x21x16x64 : Shape := ⟨4, ![1, 21, 16, 64]⟩
abbrev S21x4096 : Shape := ⟨2, ![21, 4096]⟩
abbrev S21x64x64 : Shape := ⟨3, ![21, 64, 64]⟩
abbrev S1x4096 : Shape := ⟨2, ![1, 4096]⟩
abbrev S4096x1024 : Shape := ⟨2, ![4096, 1024]⟩
abbrev S21x1024 : Shape := ⟨2, ![21, 1024]⟩
abbrev S1x1024 : Shape := ⟨2, ![1, 1024]⟩
abbrev S21x16x64 : Shape := ⟨3, ![21, 16, 64]⟩
abbrev S16x64 : Shape := ⟨2, ![16, 64]⟩
abbrev S1x16x64 : Shape := ⟨3, ![1, 16, 64]⟩

abbrev nBuf : Space → Nat
  | .hbm => 83
  | .vmem => 44
  | .smem => 0
  | _ => 0

abbrev bufTy : (tb : Table) → Fin (tcTables nBuf tb) → BufTy
  | .hbm, ⟨0, _⟩ => ⟨S2x21x64x64, .f32⟩
  | .hbm, ⟨1, _⟩ => ⟨S2x3x64x64, .f32⟩
  | .hbm, ⟨2, _⟩ => ⟨S64x64, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S64x64, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S2x3x4096, .f32⟩
  | .hbm, ⟨16, _⟩ => ⟨S2x4096x3, .f32⟩
  | .hbm, ⟨17, _⟩ => ⟨S_, .f32⟩
  | .hbm, ⟨18, _⟩ => ⟨S2x4096x3, .f32⟩
  | .hbm, ⟨19, _⟩ => ⟨S2x4096x3, .f32⟩
  | .hbm, ⟨20, _⟩ => ⟨S1x4096x1, .f32⟩
  | .hbm, ⟨21, _⟩ => ⟨S2x4096x3, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S4096x1, .f32⟩
  | .hbm, ⟨28, _⟩ => ⟨S4096x1, .f32⟩
  | .hbm, ⟨29, _⟩ => ⟨S4096x2, .f32⟩
  | .hbm, ⟨30, _⟩ => ⟨S1x4096x2, .f32⟩
  | .hbm, ⟨31, _⟩ => ⟨S2x4096x2, .f32⟩
  | .hbm, ⟨32, _⟩ => ⟨S_, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x8, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x8, .f32⟩
  | .hbm, ⟨46, _⟩ => ⟨S2x4096x4096, .fp8e4m3⟩
  | .hbm, ⟨47, _⟩ => ⟨S2x1x4096, .f32⟩
  | .hbm, ⟨48, _⟩ => ⟨S2x21x64x64, .f32⟩
  | .hbm, ⟨49, _⟩ => ⟨S2x21x64x64, .f32⟩
  | .hbm, ⟨50, _⟩ => ⟨S19, .f32⟩
  | .hbm, ⟨51, _⟩ => ⟨S_, .f32⟩
  | .hbm, ⟨52, _⟩ => ⟨S19, .f32⟩
  | .hbm, ⟨53, _⟩ => ⟨S19, .f32⟩
  | .hbm, ⟨54, _⟩ => ⟨S19, .f32⟩
  | .hbm, ⟨55, _⟩ => ⟨S19, .f32⟩
  | .hbm, ⟨56, _⟩ => ⟨S_, .f32⟩
  | .hbm, ⟨57, _⟩ => ⟨S19, .f32⟩
  | .hbm, ⟨58, _⟩ => ⟨S19, .f32⟩
  | .hbm, ⟨59, _⟩ => ⟨S19, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .i1⟩
  | .hbm, ⟨67, _⟩ => ⟨S64x64, .f32⟩
  | .hbm, ⟨68, _⟩ => ⟨S64x64, .f32⟩
  | .hbm, ⟨69, _⟩ => ⟨S_, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S_, .f32⟩
  | .hbm, ⟨74, _⟩ => ⟨S_, .f32⟩
  | .hbm, ⟨75, _⟩ => ⟨S64x64, .f32⟩
  | .hbm, ⟨76, _⟩ => ⟨S64x64, .f32⟩
  | .hbm, ⟨77, _⟩ => ⟨S_, .f32⟩
  | .hbm, ⟨78, _⟩ => ⟨S_, .f32⟩
  | .hbm, ⟨79, _⟩ => ⟨S64x64, .f32⟩
  | .hbm, ⟨80, _⟩ => ⟨S64x64, .f32⟩
  | .hbm, ⟨81, _⟩ => ⟨S2x21x64x64, .f32⟩
  | .hbm, ⟨82, _⟩ => ⟨S2x21x64x64, .f32⟩
  | .local _ .vmem, ⟨0, _⟩ => ⟨S1x512x8, .f32⟩
  | .local _ .vmem, ⟨1, _⟩ => ⟨S1x512x8, .f32⟩
  | .local _ .vmem, ⟨2, _⟩ => ⟨S1x4096x8, .f32⟩
  | .local _ .vmem, ⟨3, _⟩ => ⟨S1x4096x8, .f32⟩
  | .local _ .vmem, ⟨4, _⟩ => ⟨S1x21x8x64, .f32⟩
  | .local _ .vmem, ⟨5, _⟩ => ⟨S1x21x8x64, .f32⟩
  | .local _ .vmem, ⟨6, _⟩ => ⟨S1x512x4096, .fp8e4m3⟩
  | .local _ .vmem, ⟨7, _⟩ => ⟨S1x512x4096, .fp8e4m3⟩
  | .local _ .vmem, ⟨8, _⟩ => ⟨S1x1x512, .f32⟩
  | .local _ .vmem, ⟨9, _⟩ => ⟨S1x1x512, .f32⟩
  | .local _ .vmem, ⟨10, _⟩ => ⟨S1x21x8x64, .f32⟩
  | .local _ .vmem, ⟨11, _⟩ => ⟨S1x21x8x64, .f32⟩
  | .local _ .vmem, ⟨12, _⟩ => ⟨S1x21x8x64, .f32⟩
  | .local _ .vmem, ⟨13, _⟩ => ⟨S1x21x8x64, .f32⟩
  | .local _ .vmem, ⟨14, _⟩ => ⟨S1x21x64x64, .f32⟩
  | .local _ .vmem, ⟨15, _⟩ => ⟨S1x21x64x64, .f32⟩
  | .local _ .vmem, ⟨16, _⟩ => ⟨S1x1x4096, .f32⟩
  | .local _ .vmem, ⟨17, _⟩ => ⟨S1x1x4096, .f32⟩
  | .local _ .vmem, ⟨18, _⟩ => ⟨S1x4096x1024, .fp8e4m3⟩
  | .local _ .vmem, ⟨19, _⟩ => ⟨S1x4096x1024, .fp8e4m3⟩
  | .local _ .vmem, ⟨20, _⟩ => ⟨S1x1x1024, .f32⟩
  | .local _ .vmem, ⟨21, _⟩ => ⟨S1x1x1024, .f32⟩
  | .local _ .vmem, ⟨22, _⟩ => ⟨S1x21x16x64, .f32⟩
  | .local _ .vmem, ⟨23, _⟩ => ⟨S1x21x16x64, .f32⟩
  | .local _ .vmem, ⟨24, _⟩ => ⟨S64x64, .f32⟩
  | .local _ .vmem, ⟨25, _⟩ => ⟨S1x21x16x64, .f32⟩
  | .local _ .vmem, ⟨26, _⟩ => ⟨S1x21x16x64, .f32⟩
  | .local _ .vmem, ⟨27, _⟩ => ⟨S21x4096, .bf16⟩
  | .local _ .vmem, ⟨28, _⟩ => ⟨S21x64x64, .f32⟩
  | .local _ .vmem, ⟨29, _⟩ => ⟨S1x21x64x64, .f32⟩
  | .local _ .vmem, ⟨30, _⟩ => ⟨S1x21x64x64, .f32⟩
  | .local _ .vmem, ⟨31, _⟩ => ⟨S1x1x4096, .f32⟩
  | .local _ .vmem, ⟨32, _⟩ => ⟨S1x1x4096, .f32⟩
  | .local _ .vmem, ⟨33, _⟩ => ⟨S1x4096x1024, .fp8e4m3⟩
  | .local _ .vmem, ⟨34, _⟩ => ⟨S1x4096x1024, .fp8e4m3⟩
  | .local _ .vmem, ⟨35, _⟩ => ⟨S1x1x1024, .f32⟩
  | .local _ .vmem, ⟨36, _⟩ => ⟨S1x1x1024, .f32⟩
  | .local _ .vmem, ⟨37, _⟩ => ⟨S1x21x16x64, .f32⟩
  | .local _ .vmem, ⟨38, _⟩ => ⟨S1x21x16x64, .f32⟩
  | .local _ .vmem, ⟨39, _⟩ => ⟨S64x64, .f32⟩
  | .local _ .vmem, ⟨40, _⟩ => ⟨S1x21x16x64, .f32⟩
  | .local _ .vmem, ⟨41, _⟩ => ⟨S1x21x16x64, .f32⟩
  | .local _ .vmem, ⟨42, _⟩ => ⟨S21x4096, .bf16⟩
  | .local _ .vmem, ⟨43, _⟩ => ⟨S21x64x64, .f32⟩
  | _, _ => ⟨S2x21x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_call0_v0 : Ref sig .tc := ⟨.hbm, 78, rfl⟩
abbrev main_call0_v1 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg6_1 : Ref sig .tc := ⟨.vmem, 41, rfl⟩
abbrev cc2_scratch0 : Ref sig .tc := ⟨.vmem, 42, rfl⟩
abbrev cc2_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x21x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x21x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x21x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 4], ![false, false]⟩

def k1_off1 (i : grid1.Coords) : Fin 3 → Nat :=
  let c0_8 : Index := 0#32
  let arg1 : BitVec 32 := BitVec.ofNat 32 (i 1).val
  let c16_i32 : BitVec 32 := 16#32
  let v12 : BitVec 32 := Scalar.muli arg1 c16_i32
  let v13 : Index := Scalar.indexCast v12
  let c0_9 : Index := 0#32
  ![0, v13.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x21x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x21x16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x21x16x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 4], ![false, false]⟩

def k2_off1 (i : grid2.Coords) : Fin 3 → Nat :=
  let c0_8 : Index := 0#32
  let arg1 : BitVec 32 := BitVec.ofNat 32 (i 1).val
  let c16_i32 : BitVec 32 := 16#32
  let v12 : BitVec 32 := Scalar.muli arg1 c16_i32
  let v13 : Index := Scalar.indexCast v12
  let c0_9 : Index := 0#32
  ![0, v13.toNat, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x21x64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x4096x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x21x16x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x21x16x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S2x21x64x64 : Shape := ⟨4, ![2, 21, 64, 64]⟩
abbrev S2x3x64x64 : Shape := ⟨4, ![2, 3, 64, 64]⟩
abbrev S5 : Shape := ⟨1, ![5]⟩
abbrev S64x64 : Shape := ⟨2, ![64, 64]⟩
abbrev S1x64x64 : Shape := ⟨3, ![1, 64, 64]⟩
abbrev S2x64x64 : Shape := ⟨3, ![2, 64, 64]⟩
abbrev S19x19 : Shape := ⟨2, ![19, 19]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x2x64x64 : Shape := ⟨4, ![2, 2, 64, 64]⟩
abbrev S2x5x64x64 : Shape := ⟨4, ![2, 5, 64, 64]⟩
abbrev S5x1x1 : Shape := ⟨3, ![5, 1, 1]⟩
abbrev S1x5x1x1 : Shape := ⟨4, ![1, 5, 1, 1]⟩
abbrev S2x5x4096 : Shape := ⟨3, ![2, 5, 4096]⟩
abbrev S2x4096x5 : Shape := ⟨3, ![2, 4096, 5]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S1x2x4096 : Shape := ⟨3, ![1, 2, 4096]⟩
abbrev S2x1x64x64 : Shape := ⟨4, ![2, 1, 64, 64]⟩
abbrev S2x21x4096 : Shape := ⟨3, ![2, 21, 4096]⟩

abbrev nBuf : Space → Nat
  | .hbm => 188
  | .vmem => 0
  | .smem => 0
  | _ => 0

abbrev hbmTy0_0 (i : Nat) : BufTy := match i % 128 with
  | 0 => ⟨S2x21x64x64, .f32⟩
  | 1 => ⟨S2x3x64x64, .f32⟩
  | 2 => ⟨S5, .f32⟩
  | 3 => ⟨S64x64, .f32⟩
  | 4 => ⟨S64x64, .f32⟩
  | 5 => ⟨S1x64x64, .f32⟩
  | 6 => ⟨S1x64x64, .f32⟩
  | 7 => ⟨S2x64x64, .f32⟩
  | 8 => ⟨S19x19, .f32⟩
  | 9 => ⟨S19x19, .f32⟩
  | 10 => ⟨S_, .f32⟩
  | 11 => ⟨S19x19, .f32⟩
  | 12 => ⟨S19x19, .f32⟩
  | 13 => ⟨S19x19, .f32⟩
  | 14 => ⟨S_, .f32⟩
  | 15 => ⟨S19x19, .f32⟩
  | 16 => ⟨S19x19, .f32⟩
  | 17 => ⟨S19x19, .f32⟩
  | 18 => ⟨S19x19, .f32⟩
  | 19 => ⟨S19x19, .f32⟩
  | 20 => ⟨S_, .f32⟩
  | 21 => ⟨S19x19, .f32⟩
  | 22 => ⟨S19x19, .f32⟩
  | 23 => ⟨S19x19, .f32⟩
  | 24 => ⟨S_, .f32⟩
  | 25 => ⟨S_, .f32⟩
  | 26 => ⟨S64x64, .f32⟩
  | 27 => ⟨S4096, .f32⟩
  | 28 => ⟨S64x64, .f32⟩
  | 29 => ⟨S4096, .f32⟩
  | 30 => ⟨S1x4096, .f32⟩
  | 31 => ⟨S4096x1, .f32⟩
  | 32 => ⟨S4096x4096, .f32⟩
  | 33 => ⟨S4096x4096, .f32⟩
  | 34 => ⟨S4096x4096, .f32⟩
  | 35 => ⟨S1x4096, .f32⟩
  | 36 => ⟨S4096x1, .f32⟩
  | 37 => ⟨S4096x4096, .f32⟩
  | 38 => ⟨S4096x4096, .f32⟩
  | 39 => ⟨S4096x4096, .f32⟩
  | 40 => ⟨S4096x4096, .f32⟩
  | 41 => ⟨S4096x4096, .f32⟩
  | 42 => ⟨S4096x4096, .f32⟩
  | 43 => ⟨S4096x4096, .f32⟩
  | 44 => ⟨S_, .f32⟩
  | 45 => ⟨S4096x4096, .f32⟩
  | 46 => ⟨S4096x4096, .f32⟩
  | 47 => ⟨S4096x4096, .f32⟩
  | 48 => ⟨S4096x4096, .f32⟩
  | 49 => ⟨S4096x4096, .f32⟩
  | 50 => ⟨S4096x4096, .f32⟩
  | 51 => ⟨S_, .f32⟩
  | 52 => ⟨S4096x4096, .f32⟩
  | 53 => ⟨S4096x4096, .i1⟩
  | 54 => ⟨S4096x4096, .f32⟩
  | 55 => ⟨S_, .f32⟩
  | 56 => ⟨S4096x4096, .f32⟩
  | 57 => ⟨S4096x4096, .i1⟩
  | 58 => ⟨S4096x4096, .i1⟩
  | 59 => ⟨S_, .f32⟩
  | 60 => ⟨S_, .f32⟩
  | 61 => ⟨S4096x4096, .f32⟩
  | 62 => ⟨S4096x4096, .f32⟩
  | 63 => ⟨S2x2x64x64, .f32⟩
  | 64 => ⟨S2x5x64x64, .f32⟩
  | 65 => ⟨S5x1x1, .f32⟩
  | 66 => ⟨S1x5x1x1, .f32⟩
  | 67 => ⟨S2x5x64x64, .f32⟩
  | 68 => ⟨S2x5x64x64, .f32⟩
  | 69 => ⟨S2x5x4096, .f32⟩
  | 70 => ⟨S2x4096x5, .f32⟩
  | 71 => ⟨S2x4096x5, .f32⟩
  | 72 => ⟨S_, .f32⟩
  | 73 => ⟨S2x4096, .f32⟩
  | 74 => ⟨S2x4096x1, .f32⟩
  | 75 => ⟨S2x1x4096, .f32⟩
  | 76 => ⟨S2x4096x4096, .f32⟩
  | 77 => ⟨S2x4096x4096, .f32⟩
  | 78 => ⟨S2x4096x4096, .f32⟩
  | 79 => ⟨S2x5x4096, .f32⟩
  | 80 => ⟨S2x4096x4096, .f32⟩
  | 81 => ⟨S_, .f32⟩
  | 82 => ⟨S2x4096x4096, .f32⟩
  | 83 => ⟨S2x4096x4096, .f32⟩
  | 84 => ⟨S2x4096x4096, .f32⟩
  | 85 => ⟨S_, .f32⟩
  | 86 => ⟨S2x4096x4096, .f32⟩
  | 87 => ⟨S2x4096x4096, .f32⟩
  | 88 => ⟨S_, .f32⟩
  | 89 => ⟨S2x4096x4096, .f32⟩
  | 90 => ⟨S2x4096x4096, .f32⟩
  | 91 => ⟨S2x4096x4096, .f32⟩
  | 92 => ⟨S_, .f32⟩
  | 93 => ⟨S1x4096, .f32⟩
  | 94 => ⟨S1x2x4096, .f32⟩
  | 95 => ⟨S1x2x4096, .f32⟩
  | 96 => ⟨S_, .f32⟩
  | 97 => ⟨S1x2x4096, .f32⟩
  | 98 => ⟨S1x2x4096, .f32⟩
  | 99 => ⟨S_, .f32⟩
  | 100 => ⟨S_, .f32⟩
  | 101 => ⟨S_, .f32⟩
  | 102 => ⟨S2x21x64x64, .f32⟩
  | 103 => ⟨S2x21x64x64, .f32⟩
  | 104 => ⟨S_, .f32⟩
  | 105 => ⟨S2x21x64x64, .f32⟩
  | 106 => ⟨S2x21x64x64, .f32⟩
  | 107 => ⟨S2x21x64x64, .f32⟩
  | 108 => ⟨S_, .f32⟩
  | 109 => ⟨S2x64x64, .f32⟩
  | 110 => ⟨S_, .f32⟩
  | 111 => ⟨S2x64x64, .f32⟩
  | 112 => ⟨S2x64x64, .f32⟩
  | 113 => ⟨S2x1x64x64, .f32⟩
  | 114 => ⟨S2x21x64x64, .f32⟩
  | 115 => ⟨S2x21x64x64, .f32⟩
  | 116 => ⟨S2x21x64x64, .f32⟩
  | 117 => ⟨S_, .f32⟩
  | 118 => ⟨S2x64x64, .f32⟩
  | 119 => ⟨S2x1x64x64, .f32⟩
  | 120 => ⟨S2x21x64x64, .f32⟩
  | 121 => ⟨S2x21x64x64, .f32⟩
  | 122 => ⟨S2x21x4096, .f32⟩
  | 123 => ⟨S2x1x4096, .f32⟩
  | 124 => ⟨S2x21x4096, .f32⟩
  | 125 => ⟨S2x21x4096, .f32⟩
  | 126 => ⟨S2x21x4096, .f32⟩
  | 127 => ⟨S2x1x4096, .f32⟩
  | _ => ⟨S2x21x64x64, .f32⟩

abbrev hbmTy0_1 (i : Nat) : BufTy := match i % 128 with
  | 0 => ⟨S2x21x4096, .f32⟩
  | 1 => ⟨S2x21x4096, .f32⟩
  | 2 => ⟨S2x21x64x64, .f32⟩
  | 3 => ⟨S2x21x4096, .f32⟩
  | 4 => ⟨S2x21x64x64, .f32⟩
  | 5 => ⟨S_, .f32⟩
  | 6 => ⟨S2x21x64x64, .f32⟩
  | 7 => ⟨S2x21x64x64, .f32⟩
  | 8 => ⟨S_, .f32⟩
  | 9 => ⟨S2x21x64x64, .f32⟩
  | 10 => ⟨S2x21x64x64, .f32⟩
  | 11 => ⟨S2x21x64x64, .f32⟩
  | 12 => ⟨S2x21x64x64, .f32⟩
  | 13 => ⟨S_, .f32⟩
  | 14 => ⟨S2x64x64, .f32⟩
  | 15 => ⟨S_, .f32⟩
  | 16 => ⟨S2x64x64, .f32⟩
  | 17 => ⟨S2x64x64, .f32⟩
  | 18 => ⟨S2x1x64x64, .f32⟩
  | 19 => ⟨S2x21x64x64, .f32⟩
  | 20 => ⟨S2x21x64x64, .f32⟩
  | 21 => ⟨S2x21x64x64, .f32⟩
  | 22 => ⟨S_, .f32⟩
  | 23 => ⟨S2x64x64, .f32⟩
  | 24 => ⟨S2x1x64x64, .f32⟩
  | 25 => ⟨S2x21x64x64, .f32⟩
  | 26 => ⟨S2x21x64x64, .f32⟩
  | 27 => ⟨S2x21x4096, .f32⟩
  | 28 => ⟨S2x1x4096, .f32⟩
  | 29 => ⟨S2x21x4096, .f32⟩
  | 30 => ⟨S2x21x4096, .f32⟩
  | 31 => ⟨S2x21x4096, .f32⟩
  | 32 => ⟨S2x1x4096, .f32⟩
  | 33 => ⟨S2x21x4096, .f32⟩
  | 34 => ⟨S2x21x4096, .f32⟩
  | 35 => ⟨S2x21x64x64, .f32⟩
  | 36 => ⟨S2x21x4096, .f32⟩
  | 37 => ⟨S2x21x64x64, .f32⟩
  | 38 => ⟨S_, .f32⟩
  | 39 => ⟨S2x21x64x64, .f32⟩
  | 40 => ⟨S2x21x64x64, .f32⟩
  | 41 => ⟨S_, .f32⟩
  | 42 => ⟨S2x21x64x64, .f32⟩
  | 43 => ⟨S2x21x64x64, .f32⟩
  | 44 => ⟨S2x21x64x64, .f32⟩
  | 45 => ⟨S2x21x64x64, .f32⟩
  | 46 => ⟨S_, .f32⟩
  | 47 => ⟨S2x64x64, .f32⟩
  | 48 => ⟨S_, .f32⟩
  | 49 => ⟨S2x64x64, .f32⟩
  | 50 => ⟨S2x64x64, .f32⟩
  | 51 => ⟨S2x1x64x64, .f32⟩
  | 52 => ⟨S2x21x64x64, .f32⟩
  | 53 => ⟨S2x21x64x64, .f32⟩
  | 54 => ⟨S2x21x64x64, .f32⟩
  | 55 => ⟨S_, .f32⟩
  | 56 => ⟨S2x64x64, .f32⟩
  | 57 => ⟨S2x1x64x64, .f32⟩
  | 58 => ⟨S2x21x64x64, .f32⟩
  | 59 => ⟨S2x21x64x64, .f32⟩
  | _ => ⟨S2x21x64x64, .f32⟩

abbrev hbmTy (i : Nat) : BufTy := match i / 128 with
  | 0 => hbmTy0_0 i
  | 1 => hbmTy0_1 i
  | _ => ⟨S2x21x64x64, .f32⟩

abbrev bufTy : (tb : Table) → Fin (tcTables nBuf tb) → BufTy
  | .hbm, ⟨i, _⟩ => hbmTy i
  | _, _ => ⟨S2x21x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_5 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_cst_11 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_12 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_18 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_v105 : Ref sig .tc := ⟨.hbm, 135, rfl⟩
abbrev main_cst_20 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_21 : Ref sig .tc := ⟨.hbm, 141, rfl⟩
abbrev main_v110 : Ref sig .tc := ⟨.hbm, 142, rfl⟩
abbrev main_cst_22 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_24 : Ref sig .tc := ⟨.hbm, 166, rfl⟩
abbrev main_v132 : Ref sig .tc := ⟨.hbm, 167, rfl⟩
abbrev main_v133 : Ref sig .tc := ⟨.hbm, 168, rfl⟩
abbrev main_cst_25 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_26 : Ref sig .tc := ⟨.hbm, 174, rfl⟩
abbrev main_v138 : Ref sig .tc := ⟨.hbm, 175, rfl⟩
abbrev main_cst_27 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_28 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩

abbrev nD : Nat := 1
abbrev τ : Topo := Topo.v7x

variable {F : FTy → Type} [FloatOps F]
-- ==== Proof.KernelIdealRegion0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline that builds the bilateral kernel, over the entry contents `V` of its arrays -/

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where nothing is fetched, the block's index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where nothing is fetched, the block's index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where nothing is fetched, the block's index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x8 := Rect.unit (s := S1x512x8) ![0, 0, 0] S1x512x8.size inb_S1x512x8_S1x512x8_0_0_0
abbrev r0_1 : Rect S1x4096x8 := Rect.unit (s := S1x4096x8) ![0, 0, 0] S1x4096x8.size inb_S1x4096x8_S1x4096x8_0_0_0
abbrev r0_2 : Rect S1x512x4096 := Rect.unit (s := S1x512x4096) ![0, 0, 0] S1x512x4096.size inb_S1x512x4096_S1x512x4096_0_0_0
abbrev r0_3 : Rect S1x1x512 := Rect.unit (s := S1x1x512) ![0, 0, 0] S1x1x512.size inb_S1x1x512_S1x1x512_0_0_0
abbrev r0_4 : Rect S1x21x8x64 := Rect.unit (s := S1x21x8x64) ![0, 0, 0, 0] S1x21x8x64.size inb_S1x21x8x64_S1x21x8x64_0_0_0_0

/-! ## What the body leaves in each output window's buffer -/

/-- The logarithms of the clipped class probabilities, which two of the stores use. -/
def k0_pay7 (x0 : Vec F S1x512x8 .f32) (x1 : Vec F S1x4096x8 .f32) (x2 : Vec F S1x21x8x64 .f32) : FVec F S21x8x64 .f32 :=
  k0_pay6 (View.ld x2 r0_4)

/-- Window 3's staging buffer after the body, from the input windows' blocks: its one store. -/
def out0_3 (x0 : Vec F S1x512x8 .f32) (x1 : Vec F S1x4096x8 .f32) (x2 : Vec F S1x21x8x64 .f32) : Vec F S1x512x4096 .fp8e4m3 :=
  View.canon [⟨r0_2, k0_pay4 (View.ld x0 r0_0) (View.ld x1 r0_1)⟩]

/-- Its one store covers the buffer. -/
theorem cover0_3 (p0 : Vec F S1x512x4096 .fp8e4m3) (y : S1x512x4096.Idx) :
    ∃ pc ∈ ([⟨r0_2, p0⟩] : List (View.Piece (Elt F) S1x512x4096 .fp8e4m3)), y ∈ pc.1.set :=
  View.cover_of_tiled [⟨r0_2, p0⟩] S1x512x4096.size (by rfl) y

/-- Window 4's staging buffer after the body, from the input windows' blocks: its one store. -/
def out0_4 (x0 : Vec F S1x512x8 .f32) (x1 : Vec F S1x4096x8 .f32) (x2 : Vec F S1x21x8x64 .f32) : Vec F S1x1x512 .f32 :=
  View.canon [⟨r0_3, k0_pay5 (View.ld x0 r0_0) (View.ld x1 r0_1)⟩]

/-- Its one store covers the buffer. -/
theorem cover0_4 (p0 : Vec F S1x1x512 .f32) (y : S1x1x512.Idx) :
    ∃ pc ∈ ([⟨r0_3, p0⟩] : List (View.Piece (Elt F) S1x1x512 .f32)), y ∈ pc.1.set :=
  View.cover_of_tiled [⟨r0_3, p0⟩] S1x1x512.size (by rfl) y

/-- Window 5's staging buffer after the body, from the input windows' blocks: its one store. -/
def out0_5 (x0 : Vec F S1x512x8 .f32) (x1 : Vec F S1x4096x8 .f32) (x2 : Vec F S1x21x8x64 .f32) : Vec F S1x21x8x64 .f32 :=
  View.canon [⟨r0_4, k0_pay1 (k0_pay7 x0 x1 x2)⟩]

/-- Its one store covers the buffer. -/
theorem cover0_5 (p0 : Vec F S1x21x8x64 .f32) (y : S1x21x8x64.Idx) :
    ∃ pc ∈ ([⟨r0_4, p0⟩] : List (View.Piece (Elt F) S1x21x8x64 .f32)), y ∈ pc.1.set :=
  View.cover_of_tiled [⟨r0_4, p0⟩] S1x21x8x64.size (by rfl) y

/-- Window 6's staging buffer after the body, from the input windows' blocks: its one store. -/
def out0_6 (x0 : Vec F S1x512x8 .f32) (x1 : Vec F S1x4096x8 .f32) (x2 : Vec F S1x21x8x64 .f32) : Vec F S1x21x8x64 .f32 :=
  View.canon [⟨r0_4, k0_pay2 (k0_pay7 x0 x1 x2)⟩]

/-- Its one store covers the buffer. -/
theorem cover0_6 (p0 : Vec F S1x21x8x64 .f32) (y : S1x21x8x64.Idx) :
    ∃ pc ∈ ([⟨r0_4, p0⟩] : List (View.Piece (Elt F) S1x21x8x64 .f32)), y ∈ pc.1.set :=
  View.cover_of_tiled [⟨r0_4, p0⟩] S1x21x8x64.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg2 : Memref sig .tc .vmem S1x512x8 .f32) (harg2 : arg2.IsWhole) (arg3 : Memref sig .tc .vmem S1x4096x8 .f32) (harg3 : arg3.IsWhole) (arg4 : Memref sig .tc .vmem S1x21x8x64 .f32) (harg4 : arg4.IsWhole) (arg5 : Memref sig .tc .vmem S1x512x4096 .fp8e4m3) (harg5 : arg5.IsWhole) (arg6 : Memref sig .tc .vmem S1x1x512 .f32) (harg6 : arg6.IsWhole) (arg7 : Memref sig .tc .vmem S1x21x8x64 .f32) (harg7 : arg7.IsWhole) (arg8 : Memref sig .tc .vmem S1x21x8x64 .f32) (harg8 : arg8.IsWhole)
    (x0 : Vec F S1x512x8 .f32) (x1 : Vec F S1x4096x8 .f32) (x2 : Vec F S1x21x8x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2) ∗ owns (c : Thread nD τ) arg8 fullShare (out0_6 x0 x1 x2)) -∗ K ⟨⟩))
      ⊢ wp frame (wpE (defs₀ (F := F)) Variants.none c none) E (cc0__build_kern i arg2 harg2 arg3 harg3 arg4 harg4 arg5 harg5 arg6 harg6 arg7 harg7 arg8 harg8) K := by
  simp only [cc0__build_kern_eq_skeleton]; unfold cc0__build_kern_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant keeps the
    rest of the scoped buffers and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The pipeline's demand on its body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdealStep.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One point of the mean-field step

The first point of a batch fills two buffers that the later points of that batch read: the label weights scaled by
the bilateral normaliser, and the label weights smoothed by the spatial weights. -/

abbrev rq : Rect S1x21x64x64 := Rect.unit (s := S1x21x64x64) ![0, 0, 0, 0] S1x21x64x64.size inb_S1x21x64x64_S1x21x64x64_0_0_0_0
abbrev rinv : Rect S1x1x4096 := Rect.unit (s := S1x1x4096) ![0, 0, 0] S1x1x4096.size inb_S1x1x4096_S1x1x4096_0_0_0
abbrev rk : Rect S1x4096x1024 := Rect.unit (s := S1x4096x1024) ![0, 0, 0] S1x4096x1024.size inb_S1x4096x1024_S1x4096x1024_0_0_0
abbrev rit : Rect S1x1x1024 := Rect.unit (s := S1x1x1024) ![0, 0, 0] S1x1x1024.size inb_S1x1x1024_S1x1x1024_0_0_0
abbrev ru : Rect S1x21x16x64 := Rect.unit (s := S1x21x16x64) ![0, 0, 0, 0] S1x21x16x64.size inb_S1x21x16x64_S1x21x16x64_0_0_0_0
abbrev ra : Rect S64x64 := Rect.unit (s := S64x64) ![0, 0] S64x64.size inb_S64x64_S64x64_0_0
abbrev rs0 : Rect S21x4096 := Rect.unit (s := S21x4096) ![0, 0] S21x4096.size inb_S21x4096_S21x4096_0_0
abbrev rs1 : Rect S21x64x64 := Rect.unit (s := S21x64x64) ![0, 0, 0] S21x64x64.size inb_S21x64x64_S21x64x64_0_0_0
/-- The 16 image rows of the second buffer that the point `i` reads. -/
abbrev rsl (i : grid1.Coords) : Rect S21x64x64 := Rect.unit (s := S21x64x64) (k1_off1 i) S21x16x64.size (k1_off1_inb i)

/-- The scaled label weights, from the whole label weights of a batch and its normaliser. -/
def scr0 (x0 : Vec F S1x21x64x64 .f32) (x1 : Vec F S1x1x4096 .f32) : Vec F S21x4096 .bf16 :=
  View.canon [⟨rs0, k1_pay3 (View.ld x0 rq) (View.ld x1 rinv)⟩]

/-- The spatially smoothed label weights. -/
def scr1 (x0 : Vec F S1x21x64x64 .f32) (x5 : Vec F S64x64 .f32) : Vec F S21x64x64 .f32 :=
  View.canon [⟨rs1, k1_pay4 (View.ld x0 rq) (View.ld x5 ra)⟩]

/-- What a point leaves in the result's buffer, from the two carried buffers and the point's blocks. -/
def stepOut (xs0 : Vec F S21x4096 .bf16) (xs1 : Vec F S21x64x64 .f32) (x2 : Vec F S1x4096x1024 .fp8e4m3)
    (x3 : Vec F S1x1x1024 .f32) (x4 : Vec F S1x21x16x64 .f32) (i : grid1.Coords) : Vec F S1x21x16x64 .f32 :=
  View.canon [⟨ru, k1_pay1 (k1_pay5 (View.ld xs0 rs0) (View.ld x2 rk) (View.ld x3 rit) (View.ld xs1 (rsl i)) (View.ld x4 ru))⟩]

theorem coverOut (p : Vec F S1x21x16x64 .f32) (y : S1x21x16x64.Idx) :
    ∃ pc ∈ ([⟨ru, p⟩] : List (View.Piece (Elt F) S1x21x16x64 .f32)), y ∈ pc.1.set :=
  View.cover_of_tiled [⟨ru, p⟩] S1x21x16x64.size (by rfl) y
theorem coverS0 (p : Vec F S21x4096 .bf16) (y : S21x4096.Idx) :
    ∃ pc ∈ ([⟨rs0, p⟩] : List (View.Piece (Elt F) S21x4096 .bf16)), y ∈ pc.1.set :=
  View.cover_of_tiled [⟨rs0, p⟩] S21x4096.size (by rfl) y
theorem coverS1 (p : Vec F S21x64x64 .f32) (y : S21x64x64.Idx) :
    ∃ pc ∈ ([⟨rs1, p⟩] : List (View.Piece (Elt F) S21x64x64 .f32)), y ∈ pc.1.set :=
  View.cover_of_tiled [⟨rs1, p⟩] S21x64x64.size (by rfl) y

/-- The body's branch condition: the point is the first of its batch. -/
abbrev isFirst (i : grid1.Coords) : Prop := (Scalar.cmpi .ne (Scalar.extui (Scalar.cmpi .eq (BitVec.ofNat 32 (i 1).val) 0#32)) 0#32) = 1#1

set_option maxHeartbeats 1000000 in
/-- At the first point of a batch the body fills both buffers, whatever they held, and then reads them. -/
theorem step_first (c : Dev nD) (E : Set ℕ) (i : grid1.Coords) (arg2 : Memref sig .tc .vmem S1x21x64x64 .f32) (harg2 : arg2.IsWhole) (arg3 : Memref sig .tc .vmem S1x1x4096 .f32) (harg3 : arg3.IsWhole) (arg4 : Memref sig .tc .vmem S1x4096x1024 .fp8e4m3) (harg4 : arg4.IsWhole) (arg5 : Memref sig .tc .vmem S1x1x1024 .f32) (harg5 : arg5.IsWhole) (arg6 : Memref sig .tc .vmem S1x21x16x64 .f32) (harg6 : arg6.IsWhole) (arg7 : Memref sig .tc .vmem S64x64 .f32) (harg7 : arg7.IsWhole) (arg8 : Memref sig .tc .vmem S1x21x16x64 .f32) (harg8 : arg8.IsWhole) (arg9 : Memref sig .tc .vmem S21x4096 .bf16) (harg9 : arg9.IsWhole) (arg10 : Memref sig .tc .vmem S21x64x64 .f32) (harg10 : arg10.IsWhole) (hc : isFirst i)
    (x0 : Vec F S1x21x64x64 .f32) (x1 : Vec F S1x1x4096 .f32) (x2 : Vec F S1x4096x1024 .fp8e4m3) (x3 : Vec F S1x1x1024 .f32) (x4 : Vec F S1x21x16x64 .f32) (x5 : Vec F S64x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepOut (scr0 x0 x1) (scr1 x0 x5) x2 x3 x4 i) ∗ owns (c : Thread nD τ) arg9 fullShare (scr0 x0 x1) ∗ owns (c : Thread nD τ) arg10 fullShare (scr1 x0 x5)) -∗ K ⟨⟩))
      ⊢ wp frame (wpE (defs₀ (F := F)) Variants.none c none) E (cc1__step_kern i arg2 harg2 arg3 harg3 arg4 harg4 arg5 harg5 arg6 harg6 arg7 harg7 arg8 harg8 arg9 harg9 arg10 harg10) K := by
  simp only [cc1__step_kern_eq_skeleton]; unfold cc1__step_kern_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (View.read_writes_eq_canon _ _ _ (coverOut _)).trans ?_
    unfold step_first.sl.r step_first.sl.v3
    have e1 : View.read (Elt F) arg10.view (arg10.view.writes (Elt F) arg10.view.junk (step_first.sl.HS1_1 c arg2 arg7 f0 f5))
        = scr1 (View.read (Elt F) arg2.view f0) (View.read (Elt F) arg7.view f5) :=
      (View.read_writes_eq_canon _ _ _ (coverS1 _)).trans rfl
    have e0 : arg9.view.readCov (step_first.sl.HS0_1 c arg2 arg3 f0 f1) rs0.toLoadRect
        = View.ld (scr0 (View.read (Elt F) arg2.view f0) (View.read (Elt F) arg3.view f1)) rs0 :=
      (View.readCov_eq_canon _ (step_first.sl.HS0_1 c arg2 arg3 f0 f1) _ fun j => coverS0 _ _).trans rfl
    unfold stepOut
    rw [← e1, ← e0]
    rfl
  isplitl [HS0]
  · iexists _; isplitr
    swap; · iexact HS0
    ipureintro
    refine (View.read_writes_eq_canon _ _ _ (coverS0 _)).trans ?_
    rfl
  iexists _; isplitr
  swap; · iexact HS1
  ipureintro
  refine (View.read_writes_eq_canon _ _ _ (coverS1 _)).trans ?_
  rfl

set_option maxHeartbeats 1000000 in
/-- At a later point of a batch the body reads the two buffers and leaves them alone. -/
theorem step_later (c : Dev nD) (E : Set ℕ) (i : grid1.Coords) (arg2 : Memref sig .tc .vmem S1x21x64x64 .f32) (harg2 : arg2.IsWhole) (arg3 : Memref sig .tc .vmem S1x1x4096 .f32) (harg3 : arg3.IsWhole) (arg4 : Memref sig .tc .vmem S1x4096x1024 .fp8e4m3) (harg4 : arg4.IsWhole) (arg5 : Memref sig .tc .vmem S1x1x1024 .f32) (harg5 : arg5.IsWhole) (arg6 : Memref sig .tc .vmem S1x21x16x64 .f32) (harg6 : arg6.IsWhole) (arg7 : Memref sig .tc .vmem S64x64 .f32) (harg7 : arg7.IsWhole) (arg8 : Memref sig .tc .vmem S1x21x16x64 .f32) (harg8 : arg8.IsWhole) (arg9 : Memref sig .tc .vmem S21x4096 .bf16) (harg9 : arg9.IsWhole) (arg10 : Memref sig .tc .vmem S21x64x64 .f32) (harg10 : arg10.IsWhole) (hc : ¬isFirst i)
    (x0 : Vec F S1x21x64x64 .f32) (x1 : Vec F S1x1x4096 .f32) (x2 : Vec F S1x4096x1024 .fp8e4m3) (x3 : Vec F S1x1x1024 .f32) (x4 : Vec F S1x21x16x64 .f32) (x5 : Vec F S64x64 .f32) (xs0 : Vec F S21x4096 .bf16) (xs1 : Vec F S21x64x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepOut xs0 xs1 x2 x3 x4 i) ∗ owns (c : Thread nD τ) arg9 fullShare xs0 ∗ owns (c : Thread nD τ) arg10 fullShare xs1) -∗ K ⟨⟩))
      ⊢ wp frame (wpE (defs₀ (F := F)) Variants.none c none) E (cc1__step_kern i arg2 harg2 arg3 harg3 arg4 harg4 arg5 harg5 arg6 harg6 arg7 harg7 arg8 harg8 arg9 harg9 arg10 harg10) K := by
  simp only [cc1__step_kern_eq_skeleton]; unfold cc1__step_kern_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  subst hf0 hf1 hf2 hf3 hf4 hf5 hfs0 hfs1
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (View.read_writes_eq_canon _ _ _ (coverOut _)).trans ?_
    rfl
  isplitl [HS0]
  · iexists _; isplitr; · ipureintro; rfl
    iexact HS0
  iexists _; isplitr; · ipureintro; rfl
  iexact HS1

end Cert.KernelIdeal.Hand

end
-- ==== Proof.KernelIdealRegion1.lean ====
module

public import proofs.«01_k».proof.Proof.KernelIdealStep

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mean-field step number 1, as a pipeline over the entry contents `V` of its arrays -/

variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1x21x64x64 .f32 := win1_0.stage (cfg1.slots t 0)
abbrev ms1_1 (t : Fin cfg1.N) : Memref sig .tc .vmem S1x1x4096 .f32 := win1_1.stage (cfg1.slots t 1)
abbrev ms1_2 (t : Fin cfg1.N) : Memref sig .tc .vmem S1x4096x1024 .fp8e4m3 := win1_2.stage (cfg1.slots t 2)
abbrev ms1_3 (t : Fin cfg1.N) : Memref sig .tc .vmem S1x1x1024 .f32 := win1_3.stage (cfg1.slots t 3)
abbrev ms1_4 (t : Fin cfg1.N) : Memref sig .tc .vmem S1x21x16x64 .f32 := win1_4.stage (cfg1.slots t 4)
abbrev ms1_5 (t : Fin cfg1.N) : Memref sig .tc .vmem S64x64 .f32 := win1_5.stage (cfg1.slots t 5)
abbrev ms1_6 (t : Fin cfg1.N) : Memref sig .tc .vmem S1x21x16x64 .f32 := win1_6.stage (cfg1.slots t 6)
/-- The two buffers carried from a point to the next. -/
abbrev sc1_0 : Memref sig .tc .vmem S21x4096 .bf16 := Memref.whole cc1_scratch0
abbrev sc1_1 : Memref sig .tc .vmem S21x64x64 .f32 := Memref.whole cc1_scratch1

/-- The class's invariant, with the two carried buffers at some contents and the other scoped buffers unopened. -/
theorem PhiA1_eq (c : Dev nD) :
    (Pipeline.ΦA spec1 c : sProp 𝕄)
      = iprop(iprop((∃ d, owns (c : Thread nD τ) sc1_0 fullShare d) ∗ (∃ d, owns (c : Thread nD τ) sc1_1 fullShare d) ∗ Pipeline.scopedRestBut spec1 c [cc1_scratch0, cc1_scratch1]) ∗ (∃ r, prngReg c r)) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  unfold Pipeline.ΦA; rw [scopedRest1_split]; simp only [sc1_0, sc1_1, owns_whole, assoc]; rfl

/-- What the result's buffer holds after point `t`: the step's block of the two carried buffers' contents. -/
def outAt1 (c : Dev nD) (t : Fin cfg1.N) : Vec F S1x21x16x64 .f32 :=
  stepOut (scr0 (iblk1 V c 0 t) (iblk1 V c 1 t)) (scr1 (iblk1 V c 0 t) (iblk1 V c 5 t)) (iblk1 V c 2 t) (iblk1 V c 3 t) (iblk1 V c 4 t) (grid1.coords t)

/-- The invariant between points: before the first the carried buffers are at anything; after point `n` they hold
    what that point's blocks of the label weights, the normaliser and the spatial weights give. -/
def Phi1 (c : Dev nD) : (n : ℕ) → n ≤ cfg1.N → sProp 𝕄
  | 0, _ => Pipeline.ΦA spec1 c
  | n + 1, hn => iprop(iprop(owns (c : Thread nD τ) sc1_0 fullShare (scr0 (iblk1 V c 0 ⟨n, hn⟩) (iblk1 V c 1 ⟨n, hn⟩)) ∗ owns (c : Thread nD τ) sc1_1 fullShare (scr1 (iblk1 V c 0 ⟨n, hn⟩) (iblk1 V c 5 ⟨n, hn⟩)) ∗ Pipeline.scopedRestBut spec1 c [cc1_scratch0, cc1_scratch1]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (t : Fin cfg1.N) :
    Phi1 V c (t.val + 1) t.isLt = iprop(iprop(owns (c : Thread nD τ) sc1_0 fullShare (scr0 (iblk1 V c 0 t) (iblk1 V c 1 t)) ∗ owns (c : Thread nD τ) sc1_1 fullShare (scr1 (iblk1 V c 0 t) (iblk1 V c 5 t)) ∗ Pipeline.scopedRestBut spec1 c [cc1_scratch0, cc1_scratch1]) ∗ (∃ r, prngReg c r)) := rfl

/-- The invariant gives back the class's, at any position. -/
theorem Phi1_out (c : Dev nD) (n : ℕ) (h : n ≤ cfg1.N) : Phi1 V c n h ⊢ Pipeline.ΦA spec1 c := by
  cases n with
  | zero => exact Idealize.SL.BI.Entails.refl _
  | succ n =>
    rw [show Phi1 V c (n + 1) h = iprop(iprop(owns (c : Thread nD τ) sc1_0 fullShare (scr0 (iblk1 V c 0 ⟨n, h⟩) (iblk1 V c 1 ⟨n, h⟩)) ∗ owns (c : Thread nD τ) sc1_1 fullShare (scr1 (iblk1 V c 0 ⟨n, h⟩) (iblk1 V c 5 ⟨n, h⟩)) ∗ Pipeline.scopedRestBut spec1 c [cc1_scratch0, cc1_scratch1]) ∗ (∃ r, prngReg c r)) from rfl, PhiA1_eq]
    iintro ⟨⟨HS0, HS1, HR⟩, Hg⟩
    isplitl [HS0 HS1 HR]
    · isplitl [HS0]; · iexists _; iexact HS0
      isplitl [HS1]; · iexists _; iexact HS1
      iexact HR
    iexact Hg

/-- The pipeline's proof data: the arrays as found, each input's buffer at its block, the result's at `outAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := Phi1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

theorem Phi1_last (c : Dev nD) : (dat1 V c).Φ (Fin.last cfg1.N) ⊢ Pipeline.ΦA spec1 c := by
  dsimp only [dat1]; exact Phi1_out V c _ _

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- What a fetch puts in an input's buffer is its block. -/
theorem fetched1_0 (c : Dev nD) (t : Fin cfg1.N) (d) : (dat1 V c).fetched 0 t d = iblk1 V c 0 t := by
  unfold Dat.fetched Dat.blockOf iblk1; rw [A_eq1]; try rfl
theorem fetched1_1 (c : Dev nD) (t : Fin cfg1.N) (d) : (dat1 V c).fetched 1 t d = iblk1 V c 1 t := by
  unfold Dat.fetched Dat.blockOf iblk1; rw [A_eq1]; try rfl
theorem fetched1_5 (c : Dev nD) (t : Fin cfg1.N) (d) : (dat1 V c).fetched 5 t d = iblk1 V c 5 t := by
  unfold Dat.fetched Dat.blockOf iblk1; rw [A_eq1]; try rfl

/-- Each input's buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (fetched1_1 V c t d)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (fetched1_5 V c t d)

/-- Two points at which an input's block index agrees see the same block. -/
theorem iblk1_0_congr (c : Dev nD) (t t' : Fin cfg1.N) (h : (cfg1.win 0).index t = (cfg1.win 0).index t') :
    iblk1 V c 0 t = iblk1 V c 0 t' :=
  (fetched1_0 V c t (iblk1 V c 0 t)).symm.trans (((dat1 V c).fetched_congr 0 h rfl _).trans (fetched1_0 V c t' _))
theorem iblk1_1_congr (c : Dev nD) (t t' : Fin cfg1.N) (h : (cfg1.win 1).index t = (cfg1.win 1).index t') :
    iblk1 V c 1 t = iblk1 V c 1 t' :=
  (fetched1_1 V c t (iblk1 V c 1 t)).symm.trans (((dat1 V c).fetched_congr 1 h rfl _).trans (fetched1_1 V c t' _))
theorem iblk1_5_congr (c : Dev nD) (t t' : Fin cfg1.N) (h : (cfg1.win 5).index t = (cfg1.win 5).index t') :
    iblk1 V c 5 t = iblk1 V c 5 t' :=
  (fetched1_5 V c t (iblk1 V c 5 t)).symm.trans (((dat1 V c).fetched_congr 5 h rfl _).trans (fetched1_5 V c t' _))

/-- The branch is taken at the first point of each batch. -/
theorem isFirst1 (t : Fin cfg1.N) : isFirst (grid1.coords t) ↔ t.val % 4 = 0 := by
  have ht : t.val < 8 := Nat.lt_of_lt_of_eq t.isLt N_1
  have e0 : (grid1.coords t 0).val = t.val / 4 % 2 := Pipeline.Grid.coords_val t 0 (by decide) rfl
  have e1 : (grid1.coords t 1).val = t.val / 1 % 4 := Pipeline.Grid.coords_val t 1 (by decide) rfl
  show isFirst (grid1.coords _) ↔ _
  simp only [isFirst, e0, e1]
  word_cmp

/-- A point that is not the first of its batch sees the label weights, the normaliser and the spatial weights its
    predecessor saw, so the carried buffers hold what this point's blocks give. -/
theorem Phi1_pos (c : Dev nD) (t : Fin cfg1.N) (h : t.val % 4 ≠ 0) :
    Phi1 V c t.val (Nat.le_of_lt t.isLt) = iprop(iprop(owns (c : Thread nD τ) sc1_0 fullShare (scr0 (iblk1 V c 0 t) (iblk1 V c 1 t)) ∗ owns (c : Thread nD τ) sc1_1 fullShare (scr1 (iblk1 V c 0 t) (iblk1 V c 5 t)) ∗ Pipeline.scopedRestBut spec1 c [cc1_scratch0, cc1_scratch1]) ∗ (∃ r, prngReg c r)) := by
  have n0 : (cfg1.win 0).fetch t ≠ true := fun e => h ((fetch1_0 t).mp e)
  have n1 : (cfg1.win 1).fetch t ≠ true := fun e => h ((fetch1_1 t).mp e)
  have n5 : (cfg1.win 5).fetch t ≠ true := fun e => h (by have := (fetch1_5 t).mp e; omega)
  obtain ⟨n, hn⟩ := t
  cases n with
  | zero => exact absurd rfl h
  | succ n =>
    obtain ⟨_, x0⟩ := (cfg1.win 0).index_eq_of_fetch rfl _ (Bool.not_eq_true _ |>.mp n0)
    obtain ⟨_, x1⟩ := (cfg1.win 1).index_eq_of_fetch rfl _ (Bool.not_eq_true _ |>.mp n1)
    obtain ⟨_, x5⟩ := (cfg1.win 5).index_eq_of_fetch rfl _ (Bool.not_eq_true _ |>.mp n5)
    rw [iblk1_0_congr V c ⟨n + 1, hn⟩ ⟨n, Nat.lt_of_succ_lt hn⟩ x0, iblk1_1_congr V c ⟨n + 1, hn⟩ ⟨n, Nat.lt_of_succ_lt hn⟩ x1,
      iblk1_5_congr V c ⟨n + 1, hn⟩ ⟨n, Nat.lt_of_succ_lt hn⟩ x5]
    rfl

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: at the first point of a batch the carried buffers are taken at anything and left at this
    point's contents; at a later one they are found there and left alone. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, Phi1_castSucc V c t]
  rw [show (dat1 V c).Φ t.succ = Phi1 V c (t.val + 1) t.isLt from rfl, Phi1_succ]
  unfold outAt1
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    have hΦ := Phi1_out V c t.val (Nat.le_of_lt t.isLt)
    rw [PhiA1_eq] at hΦ
    ihave H := hΦ $$ HΦ
    icases H with ⟨⟨HS0, HS1, HR⟩, Hg⟩
    iapply (step_first c Set.univ (grid1.coords t) _ _ _ _ _ _ _ _ _ _ _ _ _ _ _ _ _ _ ((isFirst1 t).mpr h0) (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi1_pos V c t h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (step_later c Set.univ (grid1.coords t) _ _ _ _ _ _ _ _ _ _ _ _ _ _ _ _ _ _ (fun e => h0 ((isFirst1 t).mp e)) (iblk1 V c 0 t) (iblk1 V c 1 t) (iblk1 V c 2 t) (iblk1 V c 3 t) (iblk1 V c 4 t) (iblk1 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The pipeline's demand on its body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdealRegion2.lean ====
module

public import proofs.«01_k».proof.Proof.KernelIdealStep

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mean-field step number 2, as a pipeline over the entry contents `V` of its arrays -/

variable (V : (c : Dev nD) → (b : Ref sig .tc) → Buf (Elt F) ((c : Thread nD τ).loc b))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S1x21x64x64 .f32 := win2_0.stage (cfg2.slots t 0)
abbrev ms2_1 (t : Fin cfg2.N) : Memref sig .tc .vmem S1x1x4096 .f32 := win2_1.stage (cfg2.slots t 1)
abbrev ms2_2 (t : Fin cfg2.N) : Memref sig .tc .vmem S1x4096x1024 .fp8e4m3 := win2_2.stage (cfg2.slots t 2)
abbrev ms2_3 (t : Fin cfg2.N) : Memref sig .tc .vmem S1x1x1024 .f32 := win2_3.stage (cfg2.slots t 3)
abbrev ms2_4 (t : Fin cfg2.N) : Memref sig .tc .vmem S1x21x16x64 .f32 := win2_4.stage (cfg2.slots t 4)
abbrev ms2_5 (t : Fin cfg2.N) : Memref sig .tc .vmem S64x64 .f32 := win2_5.stage (cfg2.slots t 5)
abbrev ms2_6 (t : Fin cfg2.N) : Memref sig .tc .vmem S1x21x16x64 .f32 := win2_6.stage (cfg2.slots t 6)
/-- The two buffers carried from a point to the next. -/
abbrev sc2_0 : Memref sig .tc .vmem S21x4096 .bf16 := Memref.whole cc2_scratch0
abbrev sc2_1 : Memref sig .tc .vmem S21x64x64 .f32 := Memref.whole cc2_scratch1

/-- The class's invariant, with the two carried buffers at some contents and the other scoped buffers unopened. -/
theorem PhiA2_eq (c : Dev nD) :
    (Pipeline.ΦA spec2 c : sProp 𝕄)
      = iprop(iprop((∃ d, owns (c : Thread nD τ) sc2_0 fullShare d) ∗ (∃ d, owns (c : Thread nD τ) sc2_1 fullShare d) ∗ Pipeline.scopedRestBut spec2 c [cc2_scratch0, cc2_scratch1]) ∗ (∃ r, prngReg c r)) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  unfold Pipeline.ΦA; rw [scopedRest2_split]; simp only [sc2_0, sc2_1, owns_whole, assoc]; rfl

/-- What the result's buffer holds after point `t`: the step's block of the two carried buffers' contents. -/
def outAt2 (c : Dev nD) (t : Fin cfg2.N) : Vec F S1x21x16x64 .f32 :=
  stepOut (scr0 (iblk2 V c 0 t) (iblk2 V c 1 t)) (scr1 (iblk2 V c 0 t) (iblk2 V c 5 t)) (iblk2 V c 2 t) (iblk2 V c 3 t) (iblk2 V c 4 t) (grid2.coords t)

/-- The invariant between points: before the first the carried buffers are at anything; after point `n` they hold
    what that point's blocks of the label weights, the normaliser and the spatial weights give. -/
def Phi2 (c : Dev nD) : (n : ℕ) → n ≤ cfg2.N → sProp 𝕄
  | 0, _ => Pipeline.ΦA spec2 c
  | n + 1, hn => iprop(iprop(owns (c : Thread nD τ) sc2_0 fullShare (scr0 (iblk2 V c 0 ⟨n, hn⟩) (iblk2 V c 1 ⟨n, hn⟩)) ∗ owns (c : Thread nD τ) sc2_1 fullShare (scr1 (iblk2 V c 0 ⟨n, hn⟩) (iblk2 V c 5 ⟨n, hn⟩)) ∗ Pipeline.scopedRestBut spec2 c [cc2_scratch0, cc2_scratch1]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (t : Fin cfg2.N) :
    Phi2 V c (t.val + 1) t.isLt = iprop(iprop(owns (c : Thread nD τ) sc2_0 fullShare (scr0 (iblk2 V c 0 t) (iblk2 V c 1 t)) ∗ owns (c : Thread nD τ) sc2_1 fullShare (scr1 (iblk2 V c 0 t) (iblk2 V c 5 t)) ∗ Pipeline.scopedRestBut spec2 c [cc2_scratch0, cc2_scratch1]) ∗ (∃ r, prngReg c r)) := rfl

/-- The invariant gives back the class's, at any position. -/
theorem Phi2_out (c : Dev nD) (n : ℕ) (h : n ≤ cfg2.N) : Phi2 V c n h ⊢ Pipeline.ΦA spec2 c := by
  cases n with
  | zero => exact Idealize.SL.BI.Entails.refl _
  | succ n =>
    rw [show Phi2 V c (n + 1) h = iprop(iprop(owns (c : Thread nD τ) sc2_0 fullShare (scr0 (iblk2 V c 0 ⟨n, h⟩) (iblk2 V c 1 ⟨n, h⟩)) ∗ owns (c : Thread nD τ) sc2_1 fullShare (scr1 (iblk2 V c 0 ⟨n, h⟩) (iblk2 V c 5 ⟨n, h⟩)) ∗ Pipeline.scopedRestBut spec2 c [cc2_scratch0, cc2_scratch1]) ∗ (∃ r, prngReg c r)) from rfl, PhiA2_eq]
    iintro ⟨⟨HS0, HS1, HR⟩, Hg⟩
    isplitl [HS0 HS1 HR]
    · isplitl [HS0]; · iexists _; iexact HS0
      isplitl [HS1]; · iexists _; iexact HS1
      iexact HR
    iexact Hg

/-- The pipeline's proof data: the arrays as found, each input's buffer at its block, the result's at `outAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ t := Phi2 V c t.val (Nat.le_of_lt_succ t.isLt)
  q w := Pipeline.shareOf spec2 w
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; exact Pipeline.Dat.Φ_castSucc (Phi2 V c) t

theorem Phi2_last (c : Dev nD) : (dat2 V c).Φ (Fin.last cfg2.N) ⊢ Pipeline.ΦA spec2 c := by
  dsimp only [dat2]; exact Phi2_out V c _ _

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

/-- What a fetch puts in an input's buffer is its block. -/
theorem fetched2_0 (c : Dev nD) (t : Fin cfg2.N) (d) : (dat2 V c).fetched 0 t d = iblk2 V c 0 t := by
  unfold Dat.fetched Dat.blockOf iblk2; rw [A_eq2]; try rfl
theorem fetched2_1 (c : Dev nD) (t : Fin cfg2.N) (d) : (dat2 V c).fetched 1 t d = iblk2 V c 1 t := by
  unfold Dat.fetched Dat.blockOf iblk2; rw [A_eq2]; try rfl
theorem fetched2_5 (c : Dev nD) (t : Fin cfg2.N) (d) : (dat2 V c).fetched 5 t d = iblk2 V c 5 t := by
  unfold Dat.fetched Dat.blockOf iblk2; rw [A_eq2]; try rfl

/-- Each input's buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (fetched2_0 V c t d)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (fetched2_1 V c t d)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (fetched2_5 V c t d)

/-- Two points at which an input's block index agrees see the same block. -/
theorem iblk2_0_congr (c : Dev nD) (t t' : Fin cfg2.N) (h : (cfg2.win 0).index t = (cfg2.win 0).index t') :
    iblk2 V c 0 t = iblk2 V c 0 t' :=
  (fetched2_0 V c t (iblk2 V c 0 t)).symm.trans (((dat2 V c).fetched_congr 0 h rfl _).trans (fetched2_0 V c t' _))
theorem iblk2_1_congr (c : Dev nD) (t t' : Fin cfg2.N) (h : (cfg2.win 1).index t = (cfg2.win 1).index t') :
    iblk2 V c 1 t = iblk2 V c 1 t' :=
  (fetched2_1 V c t (iblk2 V c 1 t)).symm.trans (((dat2 V c).fetched_congr 1 h rfl _).trans (fetched2_1 V c t' _))
theorem iblk2_5_congr (c : Dev nD) (t t' : Fin cfg2.N) (h : (cfg2.win 5).index t = (cfg2.win 5).index t') :
    iblk2 V c 5 t = iblk2 V c 5 t' :=
  (fetched2_5 V c t (iblk2 V c 5 t)).symm.trans (((dat2 V c).fetched_congr 5 h rfl _).trans (fetched2_5 V c t' _))

/-- The branch is taken at the first point of each batch. -/
theorem isFirst2 (t : Fin cfg2.N) : isFirst (grid2.coords t) ↔ t.val % 4 = 0 := by
  have ht : t.val < 8 := Nat.lt_of_lt_of_eq t.isLt N_2
  have e0 : (grid2.coords t 0).val = t.val / 4 % 2 := Pipeline.Grid.coords_val t 0 (by decide) rfl
  have e1 : (grid2.coords t 1).val = t.val / 1 % 4 := Pipeline.Grid.coords_val t 1 (by decide) rfl
  show isFirst (grid1.coords _) ↔ _
  simp only [isFirst, e0, e1]
  word_cmp

/-- A point that is not the first of its batch sees the label weights, the normaliser and the spatial weights its
    predecessor saw, so the carried buffers hold what this point's blocks give. -/
theorem Phi2_pos (c : Dev nD) (t : Fin cfg2.N) (h : t.val % 4 ≠ 0) :
    Phi2 V c t.val (Nat.le_of_lt t.isLt) = iprop(iprop(owns (c : Thread nD τ) sc2_0 fullShare (scr0 (iblk2 V c 0 t) (iblk2 V c 1 t)) ∗ owns (c : Thread nD τ) sc2_1 fullShare (scr1 (iblk2 V c 0 t) (iblk2 V c 5 t)) ∗ Pipeline.scopedRestBut spec2 c [cc2_scratch0, cc2_scratch1]) ∗ (∃ r, prngReg c r)) := by
  have n0 : (cfg2.win 0).fetch t ≠ true := fun e => h ((fetch2_0 t).mp e)
  have n1 : (cfg2.win 1).fetch t ≠ true := fun e => h ((fetch2_1 t).mp e)
  have n5 : (cfg2.win 5).fetch t ≠ true := fun e => h (by have := (fetch2_5 t).mp e; omega)
  obtain ⟨n, hn⟩ := t
  cases n with
  | zero => exact absurd rfl h
  | succ n =>
    obtain ⟨_, x0⟩ := (cfg2.win 0).index_eq_of_fetch rfl _ (Bool.not_eq_true _ |>.mp n0)
    obtain ⟨_, x1⟩ := (cfg2.win 1).index_eq_of_fetch rfl _ (Bool.not_eq_true _ |>.mp n1)
    obtain ⟨_, x5⟩ := (cfg2.win 5).index_eq_of_fetch rfl _ (Bool.not_eq_true _ |>.mp n5)
    rw [iblk2_0_congr V c ⟨n + 1, hn⟩ ⟨n, Nat.lt_of_succ_lt hn⟩ x0, iblk2_1_congr V c ⟨n + 1, hn⟩ ⟨n, Nat.lt_of_succ_lt hn⟩ x1,
      iblk2_5_congr V c ⟨n + 1, hn⟩ ⟨n, Nat.lt_of_succ_lt hn⟩ x5]
    rfl

/-- What the body is called with at point `t`, and what it returns. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 1600000 in
/-- The body at any point: at the first point of a batch the carried buffers are taken at anything and left at this
    point's contents; at a later one they are found there and left alone. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show @cc2__step_kern F _ = @cc1__step_kern F _ from rfl]
  simp only [before2_0, before2_1, before2_2, before2_3, before2_4, before2_5]
  rw [show (dat2 V c).owesAt () t.succ = (dat2 V c).owesAt () t.castSucc from rfl,
    after2_0, after2_1, after2_2, after2_3, after2_4, after2_5, after2_6, Phi2_castSucc V c t]
  rw [show (dat2 V c).Φ t.succ = Phi2 V c (t.val + 1) t.isLt from rfl, Phi2_succ]
  unfold outAt2
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    have hΦ := Phi2_out V c t.val (Nat.le_of_lt t.isLt)
    rw [PhiA2_eq] at hΦ
    ihave H := hΦ $$ HΦ
    icases H with ⟨⟨HS0, HS1, HR⟩, Hg⟩
    iapply (step_first c Set.univ (grid2.coords t) _ _ _ _ _ _ _ _ _ _ _ _ _ _ _ _ _ _ ((isFirst2 t).mpr h0) (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi2_pos V c t h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (step_later c Set.univ (grid2.coords t) _ _ _ _ _ _ _ _ _ _ _ _ _ _ _ _ _ _ (fun e => h0 ((isFirst2 t).mp e)) (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The pipeline's demand on its body, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.KernelIdealRun.lean ====
module

public import proofs.«01_k».proof.Proof.Gen.KernelIdeal.Regions
public import proofs.«01_k».proof.Proof.KernelIdealRegion0
public import proofs.«01_k».proof.Proof.KernelIdealRegion1
public import proofs.«01_k».proof.Proof.KernelIdealRegion2

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program, from the launch to the return -/

variable (m : (ℓ : Loc nD τ sig) → Buf (Elt F) ℓ) (ρ : Dev nD → PrngReg)

/-- @main's argument arrays. -/
abbrev argRefs : List (Ref sig .tc) := [main_arg0, main_arg1]

/-- No host stretch writes an argument array. -/
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps1_1_args : ∀ a ∈ argRefs, a ∉ hostOps1_1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1` (region 1's entry). -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (region 2's entry). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact (dat1 (V4 m ρ) c).withArrays_arrAt launch₀1.sharedIn _ (A_eq1 (V4 m ρ) c) w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`). -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact (dat2 (V5 m ρ) c).withArrays_arrAt launch₀2.sharedIn _ (A_eq2 (V5 m ρ) c) w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W4`, left at `W5`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m ρ 1 c).Φ (Fin.last _) ⊢ Pipeline.ΦA spec1 c := Phi1_last (V4 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`
    (what the launch reads at the end). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have hΦ : (pdats m ρ 2 c).Φ (Fin.last _) ⊢ Pipeline.ΦA spec2 c := Phi2_last (V5 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .region (reg2 m ρ) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every weakly fair execution of @main terminates without a fault; its result holds what the last boundary's
    contents say, its arguments are unchanged and every counter is at zero. -/
theorem run : θ_run defs (onTc (τ := τ) (main (F := F))) ⟨m, fun _ => 0, ρ⟩ (fun r => (∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v60 (by decide)),
       (h c _ (mem_uc main_arg0 (by decide))).trans (W6_main_arg0 m ρ c),
       (h c _ (mem_uc main_arg1 (by decide))).trans (W6_main_arg1 m ρ c)⟩), funext fun g => hz g (.inr (no_unscoped g.2))⟩)

end Cert.KernelIdeal.Hand

end
-- ==== Proof.KernelFrame.lean ====
module

public import proofs.«01_k».proof.Kernel
public import proofs.«01_k».proof.Proof.Gen.Kernel
public import proofs.«01_k».proof.Proof.KernelIdealRun

@[expose] public section

set_option maxHeartbeats 0
set_option maxRecDepth 100000

noncomputable section

namespace Cert.Kernel.Hand

open Idealize.ShloMosaic Idealize.SL.Sem

variable {F : FTy → Type} [FloatOps F]

/-- What the idealized text's run says: it ends, with its arguments unchanged and every counter at zero. -/
def idealRuns (m : (ℓ : Loc Cert.KernelIdeal.nD Cert.KernelIdeal.τ Cert.KernelIdeal.sig) → Buf (Elt F) ℓ)
    (ρ : Dev Cert.KernelIdeal.nD → PrngReg) : Prop :=
  θ_run (Cert.KernelIdeal.defs (F := F)) (onTc (τ := Cert.KernelIdeal.τ) (Cert.KernelIdeal.main (F := F))) ⟨m, fun _ => 0, ρ⟩
    (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem ideal_runs (m : (ℓ : Loc Cert.KernelIdeal.nD Cert.KernelIdeal.τ Cert.KernelIdeal.sig) → Buf (Elt F) ℓ)
    (ρ : Dev Cert.KernelIdeal.nD → PrngReg) : idealRuns m ρ :=
  (θ_run _ _ _).mono (fun _ h => ⟨fun c => (h.1 c).2, h.2⟩) (Cert.KernelIdeal.Hand.run m ρ)

/-- The same of the kernel's text. -/
def runs (m : (ℓ : Loc nD τ sig) → Buf (Elt F) ℓ) (ρ : Dev nD → PrngReg) : Prop :=
  θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The two texts are one. -/
theorem runs_eq : @runs F _ = @idealRuns F _ := by sl_kernel_rfl

end Cert.Kernel.Hand

end
-- ==== Proof.Frames.lean ====
module

public import proofs.«01_k».proof.Defs
public import proofs.«01_k».proof.Proof.KernelFrame
public import proofs.«01_k».proof.Proof.Gen.ReferenceIdeal.Run

@[expose] public section

noncomputable section

/-! # Each program runs to its end, its arguments unchanged and its counters back at zero -/

namespace Cert.Frames

open Idealize.ShloMosaic Idealize.SL.Sem

/-- The kernel as printed, at its own float words. -/
theorem kernel : Cert.quiescent_Kernel := fun m ρ _ =>
  (congrFun (congrFun (Cert.Kernel.Hand.runs_eq (F := Bits)) m) ρ).mpr (Cert.Kernel.Hand.ideal_runs m ρ)

/-- The kernel read over the extended reals. -/
theorem kernelIdeal : Cert.quiescent_KernelIdeal := fun m ρ _ => Cert.Kernel.Hand.ideal_runs m ρ

/-- The reference read over the extended reals: its program declares no semaphore. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Frames

end
-- ==== Proof.Model.lean ====
module

public import Mathlib.Analysis.SpecialFunctions.Exp
public import Mathlib.Analysis.Real.Sqrt
public import Mathlib.Analysis.SpecialFunctions.Log.Basic
public import Mathlib.Algebra.BigOperators.Fin
public import Mathlib.Algebra.BigOperators.Field
public import Mathlib.Tactic.Linarith
public import Mathlib.Tactic.Ring
public import Mathlib.Tactic.FieldSimp
public import Mathlib.Tactic.Positivity

@[expose] public section

noncomputable section

/-! # The mean-field inference over the real numbers

One image of 64 × 64 pixels and 21 classes. Pixel `p` stands at row `p / 64` and column `p % 64`. -/

namespace Cert.Crf

open Finset

/-- A pixel, by its place in row-major order. -/
abbrev Px := Fin 4096

/-- The row of a pixel. -/
def row (p : Px) : Fin 64 := ⟨p.val / 64, by omega⟩

/-- The column of a pixel. -/
def col (p : Px) : Fin 64 := ⟨p.val % 64, by omega⟩

/-- The pixel at a row and a column. -/
def pix (y x : Fin 64) : Px := ⟨y.val * 64 + x.val, by omega⟩

theorem row_pix (y x : Fin 64) : row (pix y x) = y := by
  apply Fin.ext; simp only [row, pix]; omega

theorem col_pix (y x : Fin 64) : col (pix y x) = x := by
  apply Fin.ext; simp only [col, pix]; omega

theorem pix_row_col (p : Px) : pix (row p) (col p) = p := by
  apply Fin.ext; simp only [row, col, pix]; omega

theorem pix_mk (p : Px) (h : (row p).val * 64 + (col p).val < 4096) : (⟨(row p).val * 64 + (col p).val, h⟩ : Px) = p :=
  pix_row_col p

theorem row_mk (p : Px) (h : p.val / 64 < 64) : (⟨p.val / 64, h⟩ : Fin 64) = row p := rfl

theorem col_mk (p : Px) (h : p.val % 64 < 64) : (⟨p.val % 64, h⟩ : Fin 64) = col p := rfl

/-- Pixels are pairs of a row and a column. -/
def pixEquiv : Fin 64 × Fin 64 ≃ Px where
  toFun a := pix a.1 a.2
  invFun p := (row p, col p)
  left_inv a := Prod.ext (row_pix a.1 a.2) (col_pix a.1 a.2)
  right_inv p := pix_row_col p

/-- A sum over pixels is a sum over rows of sums over columns. -/
theorem sum_px {M : Type*} [AddCommMonoid M] (f : Px → M) : ∑ p, f p = ∑ y, ∑ x, f (pix y x) := by
  rw [← pixEquiv.sum_comp]; exact Fintype.sum_prod_type _

variable (img : Fin 3 → Px → ℝ) (ε : ℝ)

/-- The five features of a pixel: its place over 70 and its three channels over 12. -/
def feat (p : Px) : Fin 5 → ℝ :=
  ![(row p : ℕ) / 70, (col p : ℕ) / 70, img 0 p / 12, img 1 p / 12, img 2 p / 12]

/-- The inner product of two pixels' features. -/
def dot (p q : Px) : ℝ := ∑ i, feat img p i * feat img q i

/-- The bilateral weight of two pixels. -/
def kern (p q : Px) : ℝ := Real.exp (-(1 / 2) * max (dot img p p + dot img q q - 2 * dot img p q) 0)

theorem dot_comm (p q : Px) : dot img p q = dot img q p :=
  sum_congr rfl fun _ _ => mul_comm _ _

theorem kern_comm (p q : Px) : kern img p q = kern img q p := by
  unfold kern; rw [dot_comm img p q, add_comm (dot img p p)]

theorem kern_pos (p q : Px) : 0 < kern img p q := Real.exp_pos _

/-- The same weight from the exponent clamped above by zero. -/
theorem kern_eq_min (p q : Px) :
    Real.exp (min (dot img p q + dot img p p * (-(1 / 2)) + dot img q q * (-(1 / 2))) 0) = kern img p q := by
  unfold kern
  congr 1
  rcases le_total (dot img p p + dot img q q - 2 * dot img p q) 0 with h | h
  · rw [max_eq_right h, min_eq_right (by linarith)]; ring
  · rw [max_eq_left h, min_eq_left (by linarith)]; ring

/-- The left operand of the product that gives the exponent. -/
def fa (p : Px) : Fin 8 → ℝ :=
  ![(row p : ℕ) / 70, (col p : ℕ) / 70, img 0 p / 12, img 1 p / 12, img 2 p / 12, -(1 / 2) * dot img p p, 1, 0]

/-- The right operand of the product that gives the exponent. -/
def fb (p : Px) : Fin 8 → ℝ :=
  ![(row p : ℕ) / 70, (col p : ℕ) / 70, img 0 p / 12, img 1 p / 12, img 2 p / 12, 1, -(1 / 2) * dot img p p, 0]

theorem sum_fa_fb (p q : Px) :
    ∑ x, fa img p x * fb img q x = dot img p q + dot img p p * (-(1 / 2)) + dot img q q * (-(1 / 2)) := by
  have e : dot img p q = (row p : ℕ) / 70 * ((row q : ℕ) / 70) + (col p : ℕ) / 70 * ((col q : ℕ) / 70)
      + img 0 p / 12 * (img 0 q / 12) + img 1 p / 12 * (img 1 q / 12) + img 2 p / 12 * (img 2 q / 12) := by
    simp [dot, feat, Fin.sum_univ_succ]; ring
  rw [e]
  simp [fa, fb, Fin.sum_univ_succ]; ring

/-- The row sum of the weights. -/
def mass (p : Px) : ℝ := ∑ q, kern img p q

theorem mass_pos (p : Px) : 0 < mass img p :=
  sum_pos (fun _ _ => kern_pos img _ _) univ_nonempty

theorem mass_eq (p : Px) : mass img p = ∑ q, kern img q p :=
  sum_congr rfl fun _ _ => kern_comm img _ _

/-- The normalisation of a pixel. -/
def nrm (p : Px) : ℝ := Real.sqrt (mass img p) + ε

theorem nrm_pos (hε : 0 < ε) (p : Px) : 0 < nrm img ε p :=
  add_pos_of_nonneg_of_pos (Real.sqrt_nonneg _) hε

/-- The softmax over the classes. -/
def softmax (z : Fin 21 → ℝ) (c : Fin 21) : ℝ := Real.exp (z c) / ∑ k, Real.exp (z k)

theorem sum_exp_pos (z : Fin 21 → ℝ) : 0 < ∑ k, Real.exp (z k) :=
  sum_pos (fun _ _ => Real.exp_pos _) univ_nonempty

/-- A common shift of the scores leaves the softmax. -/
theorem softmax_shift (z : Fin 21 → ℝ) (M : ℝ) (c : Fin 21) :
    Real.exp (z c - M) / ∑ k, Real.exp (z k - M) = softmax z c := by
  unfold softmax
  simp only [Real.exp_sub]
  rw [← Finset.sum_div]
  rw [div_div_div_cancel_right₀ (Real.exp_pos M).ne']

/-- The normaliser of the one-dimensional window of 19 weights. -/
def z1 : ℝ := ∑ k : Fin 19, Real.exp (-((((k : ℕ) : ℝ) - 9) * (((k : ℕ) : ℝ) - 9)) / 18)

/-- The normaliser of the 19 × 19 window. -/
def z2 : ℝ := ∑ a : Fin 19, ∑ b : Fin 19, Real.exp (-((((a : ℕ) : ℝ) - 9) * (((a : ℕ) : ℝ) - 9)
  + (((b : ℕ) : ℝ) - 9) * (((b : ℕ) : ℝ) - 9)) / 18)

/-- The difference of two places along an axis. -/
def off (a b : Fin 64) : ℝ := ((b : ℕ) : ℝ) - ((a : ℕ) : ℝ)

/-- The one-dimensional spatial weight of place `a` for place `b`. -/
def tap (a b : Fin 64) : ℝ := if |off a b| ≤ 9 then Real.exp (-(off a b * off a b) / 18) / z1 else 0

/-- The spatial weight of pixel `p` for pixel `q`. -/
def spat (p q : Px) : ℝ :=
  if |off (row p) (row q)| ≤ 9 ∧ |off (col p) (col q)| ≤ 9 then
    Real.exp (-(off (row p) (row q) * off (row p) (row q) + off (col p) (col q) * off (col p) (col q)) / 18) / z2
  else 0

theorem z1_pos : 0 < z1 := sum_pos (fun _ _ => Real.exp_pos _) univ_nonempty

theorem z2_eq : z2 = z1 * z1 := by
  unfold z2 z1
  rw [sum_mul_sum]
  refine sum_congr rfl fun a _ => sum_congr rfl fun b _ => ?_
  rw [← Real.exp_add]; congr 1; ring

/-- The 19 × 19 window is the product of two windows of 19. -/
theorem spat_eq (p q : Px) : spat p q = tap (row p) (row q) * tap (col p) (col q) := by
  unfold spat tap
  by_cases h1 : |off (row p) (row q)| ≤ 9
  · by_cases h2 : |off (col p) (col q)| ≤ 9
    · rw [if_pos ⟨h1, h2⟩, if_pos h1, if_pos h2, z2_eq, div_mul_div_comm, ← Real.exp_add]
      congr 2; ring
    · rw [if_neg fun h => h2 h.2, if_neg h2, mul_zero]
  · rw [if_neg fun h => h1 h.1, if_neg h1, zero_mul]

/-- The spatial filter, a pass along the rows and then one along the columns. -/
theorem sum_spat (q : Px → ℝ) (p : Px) :
    ∑ r, q r * spat r p = ∑ x, (∑ y, q (pix y x) * tap y (row p)) * tap x (col p) := by
  rw [sum_px, sum_comm]
  refine sum_congr rfl fun x _ => ?_
  rw [sum_mul]
  refine sum_congr rfl fun y _ => ?_
  rw [spat_eq, row_pix, col_pix]; ring

variable (u : Fin 21 → Px → ℝ)

/-- The scores of one iteration. -/
def score (q : Fin 21 → Px → ℝ) (c : Fin 21) (p : Px) : ℝ :=
  u c p + 4 * ((∑ r, q c r / nrm img ε r * kern img r p) / nrm img ε p) + 2 * ∑ r, q c r * spat r p

/-- One iteration. -/
def step (q : Fin 21 → Px → ℝ) (c : Fin 21) (p : Px) : ℝ := softmax (fun k => score img ε u q k p) c

/-- The start. -/
def start (c : Fin 21) (p : Px) : ℝ := softmax (fun k => u k p) c

/-- Two iterations from the start. -/
def infer : Fin 21 → Px → ℝ := step img ε u (step img ε u (start u))

end Cert.Crf

end
-- ==== Proof.Lift.lean ====
module

public import proofs.«01_k».proof.Proof.Model
public import Idealize.ShloMosaic.PureOps.Ideal
public import Idealize.ShloMosaic.PureOps.Ideal.Laws
public import Idealize.ShloMosaic.Lib.IdealHost

@[expose] public section

noncomputable section

/-! # Extended-real expressions at real values -/

namespace Cert.Crf

open Idealize.ShloMosaic Finset

/-- A sum of real values is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem exp_coe (a : ℝ) : Ideal.exp (a : EReal) = (Real.exp a : EReal) := rfl

theorem sqrt_coe {a : ℝ} (h : 0 ≤ a) : Ideal.sqrt (a : EReal) = (Real.sqrt a : EReal) :=
  if_neg (not_lt.mpr h)

theorem log_coe {a : ℝ} (h : 0 < a) : Ideal.log (a : EReal) = (Real.log a : EReal) :=
  if_neg (not_le.mpr h)

theorem div_coe' {b : ℝ} (h : b ≠ 0) (a : ℝ) : Ideal.div (a : EReal) (b : EReal) = ((a / b : ℝ) : EReal) := by
  rw [Ideal.div_coe h, ← EReal.coe_mul, mul_one_div]

/-- The greatest of finitely many real values, at least one, is a real value. -/
theorem fold_max_coe (z : Fin 21 → ℝ) : ∃ M : ℝ, Finset.univ.fold max (⊥ : EReal) (fun k => (z k : EReal)) = M := by
  have hle : Finset.univ.fold max (⊥ : EReal) (fun k => (z k : EReal)) ≠ ⊤ := by
    have : Finset.univ.fold max (⊥ : EReal) (fun k => (z k : EReal)) < ⊤ :=
      (Finset.fold_max_lt _).mpr ⟨bot_lt_top, fun k _ => EReal.coe_lt_top _⟩
    exact this.ne
  have hge : (z 0 : EReal) ≤ Finset.univ.fold max (⊥ : EReal) (fun k => (z k : EReal)) :=
    (Finset.le_fold_max _).mpr (.inr ⟨0, mem_univ _, le_rfl⟩)
  have hbot : Finset.univ.fold max (⊥ : EReal) (fun k => (z k : EReal)) ≠ ⊥ :=
    fun h => EReal.coe_ne_bot _ (le_bot_iff.mp (h ▸ hge))
  exact ⟨_, (EReal.coe_toReal hle hbot).symm⟩

/-- The softmax as both programs write it, the greatest score taken off first. -/
theorem softmax_coe (w : Fin 21 → EReal) (z : Fin 21 → ℝ) (h : ∀ k, w k = z k) (c : Fin 21) :
    Ideal.div (Ideal.exp (w c - Finset.univ.fold max ⊥ w))
        (∑ k, Ideal.exp (w k - Finset.univ.fold max ⊥ w)) = (softmax z c : EReal) := by
  obtain rfl : w = fun k => (z k : EReal) := funext h
  obtain ⟨M, hM⟩ := fold_max_coe z
  rw [hM]
  simp only [← EReal.coe_sub, exp_coe, ← coe_sum]
  rw [div_coe' (sum_exp_pos fun k => z k - M).ne', softmax_shift]

/-- A small natural number read as a signed word is itself. -/
theorem sitofp_ofNat {n : ℕ} (h : n < 2 ^ 31) :
    (FloatOps.sitofp .f32 (BitVec.ofNat 32 n) : Ideal .f32) = ((n : ℝ) : EReal) := by
  have e : (BitVec.ofNat 32 n).toInt = n := by
    rw [BitVec.toInt_eq_toNat_of_lt (by rw [BitVec.toNat_ofNat, Nat.mod_eq_of_lt (by omega)]; omega), BitVec.toNat_ofNat,
      Nat.mod_eq_of_lt (by omega)]
  show (((BitVec.ofNat 32 n).toInt : ℝ) : EReal) = _
  rw [e, Int.cast_natCast]

theorem absf_coe (a : ℝ) : (FloatOps.absf (F := Ideal) (φ := .f32) (a : EReal)) = ((|a| : ℝ) : EReal) := by
  show max (a : EReal) (-(a : EReal)) = _
  rw [← EReal.coe_neg, ← coe_max]; rfl

/-- The scores as the reference writes them. -/
theorem score_coe (img : Fin 3 → Px → ℝ) {ε : ℝ} (hε : 0 < ε) (u q : Fin 21 → Px → ℝ) (c : Fin 21) (p : Px) :
    (u c p : EReal) - (((-4 : ℝ) : EReal) * Ideal.div (∑ r, Ideal.div (q c r : EReal) (nrm img ε r : EReal) * (kern img r p : EReal))
      (nrm img ε p : EReal) - ((2 : ℝ) : EReal) * ∑ r, (q c r : EReal) * (spat r p : EReal)) = (score img ε u q c p : EReal) := by
  simp only [div_coe' (nrm_pos img ε hε _).ne', ← EReal.coe_mul, ← coe_sum, ← EReal.coe_sub]
  unfold score
  congr 1; ring

/-- The bilateral weight as the kernel writes it. -/
theorem kern_coe (img : Fin 3 → Px → ℝ) (p q : Px) (a b : Fin 8 → EReal) (ha : ∀ x, a x = fa img p x)
    (hb : ∀ x, b x = fb img q x) : Ideal.exp (min (∑ x, a x * b x) 0) = (kern img p q : EReal) := by
  simp only [ha, hb, ← EReal.coe_mul, ← coe_sum, ← EReal.coe_zero, ← coe_min, exp_coe]
  rw [sum_fa_fb, kern_eq_min]

/-- The scores as the kernel writes them. -/
theorem score_coe_ker (img : Fin 3 → Px → ℝ) (ε : ℝ) (u q : Fin 21 → Px → ℝ) (c : Fin 21) (p : Px) :
    (u c p : EReal) + ((4 : ℝ) : EReal) * ((∑ r, (q c r : EReal) * ((1 / nrm img ε r : ℝ) : EReal) * (kern img r p : EReal))
      * ((1 / nrm img ε p : ℝ) : EReal))
      + ((2 : ℝ) : EReal) * ∑ x, (∑ y, (q c (pix y x) : EReal) * (tap y (row p) : EReal)) * (tap x (col p) : EReal)
      = (score img ε u q c p : EReal) := by
  simp only [← EReal.coe_mul, ← coe_sum, ← EReal.coe_add]
  unfold score
  rw [sum_spat]
  simp only [mul_one_div]

/-! ## The constants -/

/-- The small number added under the normalisation. -/
def eps : ℝ := (Ideal.ofBits .f32 0x322BCC77#32).toReal

/-- The lower end of the clip. -/
def low : ℝ := (Ideal.ofBits .f32 0x3727C5AC#32).toReal

theorem word_eps : Ideal.ofBits .f32 0x322BCC77#32 = (eps : EReal) ∧ 0 < eps := by
  have h : Ideal.ofBits .f32 0x322BCC77#32 = (((11258999 : ℝ) * 2 ^ (-50 : Int) : ℝ) : EReal) := by
    simp [Ideal.ofBits, Ideal.ieee]
  unfold eps
  rw [h, EReal.toReal_coe]
  exact ⟨rfl, by positivity⟩

theorem word_low : Ideal.ofBits .f32 0x3727C5AC#32 = (low : EReal) ∧ 0 < low := by
  have h : Ideal.ofBits .f32 0x3727C5AC#32 = (((10995116 : ℝ) * 2 ^ (-40 : Int) : ℝ) : EReal) := by
    simp [Ideal.ofBits, Ideal.ieee]
  unfold low
  rw [h, EReal.toReal_coe]
  exact ⟨rfl, by positivity⟩

theorem word_70 : Ideal.ofBits .f32 0x428C0000#32 = ((70 : ℝ) : EReal) := by
  simp [Ideal.ofBits, Ideal.ieee]; rw [← EReal.coe_mul]; norm_num

theorem word_12 : Ideal.ofBits .f32 0x41400000#32 = ((12 : ℝ) : EReal) := by
  simp [Ideal.ofBits, Ideal.ieee]; rw [← EReal.coe_mul]; norm_num

theorem word_neg_half : Ideal.ofBits .f32 0xBF000000#32 = ((-(1 / 2) : ℝ) : EReal) := by
  simp [Ideal.ofBits, Ideal.ieee]; rw [← EReal.coe_mul]; norm_num

theorem word_2 : Ideal.ofBits .f32 0x40000000#32 = ((2 : ℝ) : EReal) := by
  simp [Ideal.ofBits, Ideal.ieee]; rw [← EReal.coe_mul]; norm_num

theorem word_4 : Ideal.ofBits .f32 0x40800000#32 = ((4 : ℝ) : EReal) := by
  simp [Ideal.ofBits, Ideal.ieee]; rw [← EReal.coe_mul]; norm_num

theorem word_neg_4 : Ideal.ofBits .f32 0xC0800000#32 = ((-4 : ℝ) : EReal) := by
  simp [Ideal.ofBits, Ideal.ieee]; rw [← EReal.coe_mul]; norm_num

theorem word_9 : Ideal.ofBits .f32 0x41100000#32 = ((9 : ℝ) : EReal) := by
  simp [Ideal.ofBits, Ideal.ieee]; rw [← EReal.coe_mul]; norm_num

theorem word_18 : Ideal.ofBits .f32 0x41900000#32 = ((18 : ℝ) : EReal) := by
  simp [Ideal.ofBits, Ideal.ieee]; rw [← EReal.coe_mul]; norm_num

theorem word_neg_inf : Ideal.ofBits .f32 0xFF800000#32 = ⊥ := by
  simp [Ideal.ofBits, Ideal.ieee]

theorem low_lt : low < 1 := by
  have h : Ideal.ofBits .f32 0x3727C5AC#32 = (((10995116 : ℝ) * 2 ^ (-40 : Int) : ℝ) : EReal) := by
    simp [Ideal.ofBits, Ideal.ieee]
  unfold low
  rw [h, EReal.toReal_coe]
  norm_num

/-- The logarithm of a clipped value. -/
def logClip (v : EReal) : ℝ := Real.log (min 1 (max (low : EReal) v)).toReal

/-- A clipped value is a positive real value, whatever the value was. -/
theorem log_clip (v : EReal) : Ideal.log (min 1 (max (low : EReal) v)) = (logClip v : EReal) := by
  have h1 : min 1 (max (low : EReal) v) ≠ ⊤ := ((min_le_left _ _).trans_lt (EReal.coe_lt_top 1)).ne
  have h0 : (low : EReal) ≤ min 1 (max (low : EReal) v) :=
    le_min (EReal.coe_le_coe_iff.mpr low_lt.le) (le_max_left _ _)
  have h2 : min 1 (max (low : EReal) v) ≠ ⊥ := fun h => EReal.coe_ne_bot _ (le_bot_iff.mp (h ▸ h0))
  have e := EReal.coe_toReal h1 h2
  rw [← e] at h0
  unfold logClip
  conv_lhs => rw [← e]
  exact log_coe (word_low.2.trans_le (EReal.coe_le_coe_iff.mp h0))

end Cert.Crf

end
-- ==== Proof.KerBuild.lean ====
module

public import proofs.«01_k».proof.Proof.KernelIdealRegion0
public import proofs.«01_k».proof.Proof.Lift
public import Idealize.ShloMosaic.Lib.Pointwise
public import Idealize.ShloMosaic.Lib.Pipeline.ValueKit

@[expose] public section

set_option maxRecDepth 16384

noncomputable section

/-! # The arrays of the first pipeline, entry by entry

The bilateral weights, the inverse normalisation, the logarithms of the clipped probabilities and their softmax. -/

namespace Cert.KernelIdeal.Hand

open Cert.KernelIdeal.Gen
open Idealize.ShloMosaic Idealize.ShloMosaic.TcCoe
open Cert.Crf

/-! ## The stored values at an index -/

theorem pay_kern (img : Fin 3 → Px → ℝ) (P : Fin 512 → Px) (v0 : Vec Ideal S1x512x8 .f32) (v2 : Vec Ideal S1x4096x8 .f32)
    (h0 : ∀ i x, (v0 (ix3 0 i x) : EReal) = (fa img (P i) x : EReal))
    (h2 : ∀ q x, (v2 (ix3 0 q x) : EReal) = (fb img q x : EReal)) (i : Fin 512) (j : Fin 4096) :
    (k0_pay4 v0 v2 (ix3 0 i j) : EReal) = (kern img (P i) j : EReal) := by
  pointwise [k0_pay4, k0_pay3]
  exact kern_coe img (P i) j _ _ (h0 i) (h2 j)

theorem pay_inv (img : Fin 3 → Px → ℝ) (P : Fin 512 → Px) (v0 : Vec Ideal S1x512x8 .f32) (v2 : Vec Ideal S1x4096x8 .f32)
    (h0 : ∀ i x, (v0 (ix3 0 i x) : EReal) = (fa img (P i) x : EReal))
    (h2 : ∀ q x, (v2 (ix3 0 q x) : EReal) = (fb img q x : EReal)) (i : Fin 512) :
    (k0_pay5 v0 v2 (ix3 0 0 i) : EReal) = ((1 / nrm img eps (P i) : ℝ) : EReal) := by
  pointwise [k0_pay5, k0_pay3]
  simp only [kern_coe img (P i) _ _ _ (h0 i) (h2 _)]
  rw [← coe_sum, word_eps.1]
  change Ideal.div ((1 : ℝ) : EReal) (Ideal.sqrt (mass img (P i) : EReal) + _) = _
  rw [sqrt_coe (mass_pos img (P i)).le, ← EReal.coe_add]
  exact div_coe' (nrm_pos img eps word_eps.2 (P i)).ne' 1

theorem pay_log (v : Vec Ideal S1x21x8x64 .f32) (k : Fin 21) (y : Fin 8) (x : Fin 64) :
    (k0_pay1 (k0_pay6 v) (ix4 0 k y x) : EReal) = (logClip (v (ix4 0 k y x)) : EReal) := by
  pointwise [k0_pay1, k0_pay6]
  rw [word_low.1]; exact log_clip _

theorem pay_start (v : Vec Ideal S1x21x8x64 .f32) (k : Fin 21) (y : Fin 8) (x : Fin 64) :
    (k0_pay2 (k0_pay6 v) (ix4 0 k y x) : EReal) = (softmax (fun k => logClip (v (ix4 0 k y x))) k : EReal) := by
  pointwise [k0_pay2, k0_pay6]
  simp only [word_low.1, word_neg_inf]
  exact softmax_coe _ _ (fun k => log_clip (v (ix4 0 k y x))) k

/-! ## The arrays after the pipeline -/

variable (V : (c : Dev nD) → (b : Ref sig .tc) → Buf (Elt Ideal) ((c : Thread nD τ).loc b)) (c : Dev nD)

theorem idx0 : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, (grid0.coords t 1).val, 0]
    ∧ win0_3.index t = ![(grid0.coords t 0).val, (grid0.coords t 1).val, 0]
    ∧ win0_4.index t = ![(grid0.coords t 0).val, 0, (grid0.coords t 1).val]
    ∧ win0_5.index t = ![(grid0.coords t 0).val, 0, (grid0.coords t 1).val, 0]
    ∧ win0_6.index t = ![(grid0.coords t 0).val, 0, (grid0.coords t 1).val, 0] :=
  (by decide +kernel : ∀ t : Fin grid0.N, _)

/-- The image of a point of the grid. -/
def img0 (t : Fin cfg0.N) : Fin 2 := grid0.coords t 0
/-- The place of a point of the grid within its image. -/
def part0 (t : Fin cfg0.N) : Fin 8 := grid0.coords t 1
/-- The pixel at place `i` of a point's block. -/
def px0 (t : Fin cfg0.N) (i : Fin 512) : Px := ⟨(part0 t).val * 512 + i.val, by have := (part0 t).isLt; omega⟩
/-- The image row at place `y` of a point's block. -/
def row0 (t : Fin cfg0.N) (y : Fin 8) : Fin 64 := ⟨(part0 t).val * 8 + y.val, by have := (part0 t).isLt; omega⟩

theorem blk0_0 (t : Fin cfg0.N) (i : Fin 512) (x : Fin 8) :
    iblk0 V c 0 t (ix3 0 i x) = V c main_v30 (ix3 (img0 t) (px0 t i) x) := by
  blk_ext [iblk0, idx0 t, img0, px0, part0]

theorem blk0_1 (t : Fin cfg0.N) (q : Fin 4096) (x : Fin 8) :
    iblk0 V c 1 t (ix3 0 q x) = V c main_v34 (ix3 (img0 t) q x) := by
  blk_ext [iblk0, idx0 t, img0, px0, part0]

theorem blk0_2 (t : Fin cfg0.N) (k : Fin 21) (y : Fin 8) (x : Fin 64) :
    iblk0 V c 2 t (ix4 0 k y x) = V c main_arg0 (ix4 (img0 t) k (row0 t y) x) := by
  blk_ext [iblk0, idx0 t, img0, row0, part0]

theorem emb0_3 (t : Fin cfg0.N) (i : Fin 512) (j : Fin 4096) :
    ((cfg0.win 3).blk t).view.emb (ix3 0 i j) = ix3 (img0 t) (px0 t i) j := by
  blk_ext [idx0 t, img0, px0, part0]

theorem emb0_4 (t : Fin cfg0.N) (i : Fin 512) :
    ((cfg0.win 4).blk t).view.emb (ix3 0 0 i) = ix3 (img0 t) 0 (px0 t i) := by
  blk_ext [idx0 t, img0, px0, part0]

theorem emb0_5 (t : Fin cfg0.N) (k : Fin 21) (y : Fin 8) (x : Fin 64) :
    ((cfg0.win 5).blk t).view.emb (ix4 0 k y x) = ix4 (img0 t) k (row0 t y) x := by
  blk_ext [idx0 t, img0, row0, part0]

theorem emb0_6 (t : Fin cfg0.N) (k : Fin 21) (y : Fin 8) (x : Fin 64) :
    ((cfg0.win 6).blk t).view.emb (ix4 0 k y x) = ix4 (img0 t) k (row0 t y) x := by
  blk_ext [idx0 t, img0, row0, part0]

variable (I : Fin 2 → Fin 3 → Px → ℝ)
  (hfa : ∀ b p x, (V c main_v30 (ix3 b p x) : EReal) = (fa (I b) p x : EReal))
  (hfb : ∀ b p x, (V c main_v34 (ix3 b p x) : EReal) = (fb (I b) p x : EReal))

include hfa hfb

/-- The bilateral weights. -/
theorem final_kern : (dat0 V c).arrAt 3 cfg0.N = fun j : S2x4096x4096.Idx => (kern (I (j 0)) (j 1) (j 2) : EReal) := by
  refine (dat0 V c).arrAt_eq_of_covers 3 _ (by decide +kernel) fun t hf y => ?_
  obtain ⟨a, i, j, rfl⟩ : ∃ (a : Fin 1) (i : Fin 512) (j : Fin 4096), y = ix3 a i j := ⟨_, _, _, eq_ix3 y⟩
  obtain rfl : a = 0 := Subsingleton.elim _ _
  rw [emb0_3 t i j]
  blk_simp
  rw [after0_3]; frame_out
  exact pay_kern (I (img0 t)) (px0 t) _ _ (fun i x => (blk0_0 V c t i x).trans (hfa _ _ _))
    (fun q x => (blk0_1 V c t q x).trans (hfb _ _ _)) i j

/-- The inverse normalisation. -/
theorem final_inv : (dat0 V c).arrAt 4 cfg0.N = fun j : S2x1x4096.Idx => ((1 / nrm (I (j 0)) eps (j 2) : ℝ) : EReal) := by
  refine (dat0 V c).arrAt_eq_of_covers 4 _ (by decide +kernel) fun t hf y => ?_
  obtain ⟨a, b, i, rfl⟩ : ∃ (a : Fin 1) (b : Fin 1) (i : Fin 512), y = ix3 a b i := ⟨_, _, _, eq_ix3 y⟩
  obtain rfl : a = 0 := Subsingleton.elim _ _
  obtain rfl : b = 0 := Subsingleton.elim _ _
  rw [emb0_4 t i]
  blk_simp
  rw [after0_4]; frame_out
  exact pay_inv (I (img0 t)) (px0 t) _ _ (fun i x => (blk0_0 V c t i x).trans (hfa _ _ _))
    (fun q x => (blk0_1 V c t q x).trans (hfb _ _ _)) i

omit hfa hfb

/-- The logarithms of the clipped probabilities. -/
theorem final_log : (dat0 V c).arrAt 5 cfg0.N = fun j : S2x21x64x64.Idx => (logClip (V c main_arg0 j) : EReal) := by
  refine (dat0 V c).arrAt_eq_of_covers 5 _ (by decide +kernel) fun t hf y => ?_
  obtain ⟨a, k, y, x, rfl⟩ : ∃ (a : Fin 1) (k : Fin 21) (y' : Fin 8) (x : Fin 64), y = ix4 a k y' x := ⟨_, _, _, _, eq_ix4 y⟩
  obtain rfl : a = 0 := Subsingleton.elim _ _
  rw [emb0_5 t k y x]
  blk_simp
  rw [after0_5]; frame_out
  unfold k0_pay7
  rw [View.ld_unit_lit (h := by decide)]
  refine (pay_log _ k y x).trans ?_
  rw [blk0_2 V c t k y x]

/-- The softmax of the logarithms. -/
theorem final_start : (dat0 V c).arrAt 6 cfg0.N
    = fun j : S2x21x64x64.Idx => (softmax (fun k => logClip (V c main_arg0 (ix4 (j 0) k (j 2) (j 3)))) (j 1) : EReal) := by
  refine (dat0 V c).arrAt_eq_of_covers 6 _ (by decide +kernel) fun t hf y => ?_
  obtain ⟨a, k, y, x, rfl⟩ : ∃ (a : Fin 1) (k : Fin 21) (y' : Fin 8) (x : Fin 64), y = ix4 a k y' x := ⟨_, _, _, _, eq_ix4 y⟩
  obtain rfl : a = 0 := Subsingleton.elim _ _
  rw [emb0_6 t k y x]
  blk_simp
  rw [after0_6]; frame_out
  unfold k0_pay7
  rw [View.ld_unit_lit (h := by decide)]
  refine (pay_start _ k y x).trans ?_
  simp only [blk0_2 V c t]
  rfl

end Cert.KernelIdeal.Hand

end
-- ==== Proof.KerStep.lean ====
module

public import proofs.«01_k».proof.Proof.KernelIdealRegion1
public import proofs.«01_k».proof.Proof.KernelIdealRegion2
public import proofs.«01_k».proof.Proof.Lift
public import Idealize.ShloMosaic.Lib.Pointwise
public import Idealize.ShloMosaic.Lib.Pipeline.ValueKit

@[expose] public section

set_option maxRecDepth 16384

noncomputable section

/-! # The array of an iteration's pipeline, entry by entry -/

namespace Cert.KernelIdeal.Hand

open Cert.KernelIdeal.Gen
open Idealize.ShloMosaic Idealize.ShloMosaic.TcCoe
open Cert.Crf

/-! ## The stored values at an index -/

/-- The pixel at place `l` of the block `j`. -/
def pxS (j : Fin 4) (l : Fin 1024) : Px := ⟨j.val * 1024 + l.val, by omega⟩
/-- The image row at place `y` of the block `j`. -/
def rowS (j : Fin 4) (y : Fin 16) : Fin 64 := ⟨j.val * 16 + y.val, by omega⟩

theorem pxS_mk (j : Fin 4) (y : Fin 16) (x : Fin 64) (h : y.val * 64 + x.val < 1024) :
    pxS j ⟨y.val * 64 + x.val, h⟩ = pix (rowS j y) x := by
  apply Fin.ext; simp only [pxS, rowS, pix]; omega

theorem pay_scaled (img : Fin 3 → Px → ℝ) (q : Fin 21 → Px → ℝ) (q4 : Vec Ideal S1x21x64x64 .f32) (inv : Vec Ideal S1x1x4096 .f32)
    (hq : ∀ k y x, (q4 (ix4 0 k y x) : EReal) = (q k (pix y x) : EReal))
    (hinv : ∀ p, (inv (ix3 0 0 p) : EReal) = ((1 / nrm img eps p : ℝ) : EReal)) (k : Fin 21) (p : Fin 4096) :
    (k1_pay3 q4 inv (ix2 k p) : EReal) = (q k p : EReal) * ((1 / nrm img eps p : ℝ) : EReal) := by
  pointwise [k1_pay3, k1_pay2]
  rw [hinv, row_mk, col_mk, hq, pix_row_col]

theorem pay_smooth (q : Fin 21 → Px → ℝ) (q4 : Vec Ideal S1x21x64x64 .f32) (A : Vec Ideal S64x64 .f32)
    (hq : ∀ k y x, (q4 (ix4 0 k y x) : EReal) = (q k (pix y x) : EReal))
    (hA : ∀ y x, (A (ix2 y x) : EReal) = (tap y x : EReal)) (k : Fin 21) (y x : Fin 64) :
    (k1_pay4 q4 A (ix3 k y x) : EReal)
      = ∑ x', (∑ y', (q k (pix y' x') : EReal) * (tap y' y : EReal)) * (tap x' x : EReal) := by
  pointwise [k1_pay4, k1_pay2]
  simp only [hq, hA]

/-- The 16 rows that a point reads of the smoothed label weights. -/
theorem ld_rows (X : Vec Ideal S21x64x64 .f32) (i : grid1.Coords) (j : Fin 4) (hj : k1_off1 i = ![0, j.val * 16, 0])
    (k : Fin 21) (y : Fin 16) (x : Fin 64) : View.ld X (rsl i) (ix3 k y x) = X (ix3 k (rowS j y) x) := by
  refine View.ld_unit_apply_of X (k1_off1 i) S21x16x64.size (k1_off1_inb i) (ix3 k y x) (ix3 k (rowS j y) x) fun a => ?_
  have h0 := congrFun hj a
  fin_cases a
  · exact (Nat.zero_add _).symm.trans (congrArg (· + k.val) h0.symm)
  · exact congrArg (· + y.val) h0.symm
  · exact (Nat.zero_add _).symm.trans (congrArg (· + x.val) h0.symm)

/-- What a point of the grid stores is an iteration of the model. -/
theorem pay_step (img : Fin 3 → Px → ℝ) (u q : Fin 21 → Px → ℝ) (j : Fin 4)
    (q4 : Vec Ideal S1x21x64x64 .f32) (inv : Vec Ideal S1x1x4096 .f32) (A : Vec Ideal S64x64 .f32)
    (kb : Vec Ideal S1x4096x1024 .fp8e4m3) (ib : Vec Ideal S1x1x1024 .f32) (sm : Vec Ideal S21x16x64 .f32)
    (ub : Vec Ideal S1x21x16x64 .f32)
    (hq : ∀ k y x, (q4 (ix4 0 k y x) : EReal) = (q k (pix y x) : EReal))
    (hinv : ∀ p, (inv (ix3 0 0 p) : EReal) = ((1 / nrm img eps p : ℝ) : EReal))
    (hA : ∀ y x, (A (ix2 y x) : EReal) = (tap y x : EReal))
    (hk : ∀ r l, (kb (ix3 0 r l) : EReal) = (kern img r (pxS j l) : EReal))
    (hib : ∀ l, (ib (ix3 0 0 l) : EReal) = ((1 / nrm img eps (pxS j l) : ℝ) : EReal))
    (hs : ∀ k y x, (sm (ix3 k y x) : EReal) = k1_pay4 q4 A (ix3 k (rowS j y) x))
    (hu : ∀ k y x, (ub (ix4 0 k y x) : EReal) = (u k (pix (rowS j y) x) : EReal))
    (k : Fin 21) (y : Fin 16) (x : Fin 64) :
    (k1_pay1 (k1_pay5 (k1_pay3 q4 inv) kb ib sm ub) (ix4 0 k y x) : EReal)
      = (step img eps u q k (pix (rowS j y) x) : EReal) := by
  pointwise [k1_pay1, k1_pay5]
  simp only [word_neg_inf, word_2, word_4, pay_scaled img q q4 inv hq hinv, hk, hib, hs, pay_smooth q q4 A hq hA, hu, pxS_mk]
  have hz : ∀ k, _ = _ := fun k => score_coe_ker img eps u q k (pix (rowS j y) x)
  simp only [row_pix, col_pix] at hz
  simp only [hz]
  exact softmax_coe (fun k => (score img eps u q k (pix (rowS j y) x) : EReal)) _ (fun _ => rfl) k

/-! ## The array after the pipeline of iteration 1 -/

section Iteration1

variable (V : (c : Dev nD) → (b : Ref sig .tc) → Buf (Elt Ideal) ((c : Thread nD τ).loc b)) (c : Dev nD)

theorem idx1 : ∀ t : Fin cfg1.N,
    win1_0.index t = ![(grid1.coords t 0).val, 0, 0, 0]
    ∧ win1_1.index t = ![(grid1.coords t 0).val, 0, 0]
    ∧ win1_2.index t = ![(grid1.coords t 0).val, 0, (grid1.coords t 1).val]
    ∧ win1_3.index t = ![(grid1.coords t 0).val, 0, (grid1.coords t 1).val]
    ∧ win1_4.index t = ![(grid1.coords t 0).val, 0, (grid1.coords t 1).val, 0]
    ∧ win1_5.index t = ![0, 0]
    ∧ win1_6.index t = ![(grid1.coords t 0).val, 0, (grid1.coords t 1).val, 0] :=
  (by decide +kernel : ∀ t : Fin grid1.N, _)

theorem off1 : ∀ t : Fin cfg1.N, k1_off1 (grid1.coords t) = ![0, (grid1.coords t 1).val * 16, 0] :=
  (by decide +kernel : ∀ t : Fin grid1.N, _)

/-- The image of a point of the grid. -/
def img1 (t : Fin cfg1.N) : Fin 2 := grid1.coords t 0
/-- The block of a point of the grid within its image. -/
def part1 (t : Fin cfg1.N) : Fin 4 := grid1.coords t 1

theorem blk1_0 (t : Fin cfg1.N) (k : Fin 21) (y x : Fin 64) :
    iblk1 V c 0 t (ix4 0 k y x) = V c main_v35_3 (ix4 (img1 t) k y x) := by
  blk_ext [iblk1, idx1 t, img1]

theorem blk1_1 (t : Fin cfg1.N) (p : Fin 4096) :
    iblk1 V c 1 t (ix3 0 0 p) = V c main_v35_1 (ix3 (img1 t) 0 p) := by
  blk_ext [iblk1, idx1 t, img1]

theorem blk1_2 (t : Fin cfg1.N) (r : Fin 4096) (l : Fin 1024) :
    iblk1 V c 2 t (ix3 0 r l) = V c main_v35_0 (ix3 (img1 t) r (pxS (part1 t) l)) := by
  blk_ext [iblk1, idx1 t, img1, part1, pxS]

theorem blk1_3 (t : Fin cfg1.N) (l : Fin 1024) :
    iblk1 V c 3 t (ix3 0 0 l) = V c main_v35_1 (ix3 (img1 t) 0 (pxS (part1 t) l)) := by
  blk_ext [iblk1, idx1 t, img1, part1, pxS]

theorem blk1_4 (t : Fin cfg1.N) (k : Fin 21) (y : Fin 16) (x : Fin 64) :
    iblk1 V c 4 t (ix4 0 k y x) = V c main_v35_2 (ix4 (img1 t) k (rowS (part1 t) y) x) := by
  blk_ext [iblk1, idx1 t, img1, part1, rowS]

theorem blk1_5 (t : Fin cfg1.N) (y x : Fin 64) : iblk1 V c 5 t (ix2 y x) = V c main_v58 (ix2 y x) := by
  blk_ext [iblk1, idx1 t]

theorem emb1_6 (t : Fin cfg1.N) (k : Fin 21) (y : Fin 16) (x : Fin 64) :
    ((cfg1.win 6).blk t).view.emb (ix4 0 k y x) = ix4 (img1 t) k (rowS (part1 t) y) x := by
  blk_ext [idx1 t, img1, part1, rowS]

/-- The result of the iteration, from the entries of the arrays that it reads. -/
theorem final_step1 (I : Fin 2 → Fin 3 → Px → ℝ) (u q : Fin 2 → Fin 21 → Px → ℝ)
    (hq : ∀ b k y x, (V c main_v35_3 (ix4 b k y x) : EReal) = (q b k (pix y x) : EReal))
    (hinv : ∀ b p, (V c main_v35_1 (ix3 b 0 p) : EReal) = ((1 / nrm (I b) eps p : ℝ) : EReal))
    (hk : ∀ b r p, (V c main_v35_0 (ix3 b r p) : EReal) = (kern (I b) r p : EReal))
    (hu : ∀ b k y x, (V c main_v35_2 (ix4 b k y x) : EReal) = (u b k (pix y x) : EReal))
    (hA : ∀ y x, (V c main_v58 (ix2 y x) : EReal) = (tap y x : EReal)) :
    (dat1 V c).arrAt 6 cfg1.N
      = fun j : S2x21x64x64.Idx => (step (I (j 0)) eps (u (j 0)) (q (j 0)) (j 1) (pix (j 2) (j 3)) : EReal) := by
  refine (dat1 V c).arrAt_eq_of_covers 6 _ (by decide +kernel) fun t hf y => ?_
  obtain ⟨a, k, y, x, rfl⟩ : ∃ (a : Fin 1) (k : Fin 21) (y' : Fin 16) (x : Fin 64), y = ix4 a k y' x := ⟨_, _, _, _, eq_ix4 y⟩
  obtain rfl : a = 0 := Subsingleton.elim _ _
  rw [emb1_6 t k y x]
  blk_simp
  rw [after1_6]
  unfold outAt1 stepOut
  frame_out
  refine pay_step (I (img1 t)) (u (img1 t)) (q (img1 t)) (part1 t) _ _ (iblk1 V c 5 t) _ _ _ _
    (fun k y x => (blk1_0 V c t k y x).trans (hq _ _ _ _)) (fun p => (blk1_1 V c t p).trans (hinv _ _))
    (fun y x => (blk1_5 V c t y x).trans (hA _ _)) (fun r l => (blk1_2 V c t r l).trans (hk _ _ _))
    (fun l => (blk1_3 V c t l).trans (hinv _ _)) (fun k y x => ?_)
    (fun k y x => (blk1_4 V c t k y x).trans (hu _ _ _ _)) k y x
  exact ld_rows _ _ (part1 t) (off1 t) k y x

end Iteration1

/-! ## The array after the pipeline of iteration 2 -/

section Iteration2

variable (V : (c : Dev nD) → (b : Ref sig .tc) → Buf (Elt Ideal) ((c : Thread nD τ).loc b)) (c : Dev nD)

theorem idx2 : ∀ t : Fin cfg2.N,
    win2_0.index t = ![(grid2.coords t 0).val, 0, 0, 0]
    ∧ win2_1.index t = ![(grid2.coords t 0).val, 0, 0]
    ∧ win2_2.index t = ![(grid2.coords t 0).val, 0, (grid2.coords t 1).val]
    ∧ win2_3.index t = ![(grid2.coords t 0).val, 0, (grid2.coords t 1).val]
    ∧ win2_4.index t = ![(grid2.coords t 0).val, 0, (grid2.coords t 1).val, 0]
    ∧ win2_5.index t = ![0, 0]
    ∧ win2_6.index t = ![(grid2.coords t 0).val, 0, (grid2.coords t 1).val, 0] :=
  (by decide +kernel : ∀ t : Fin grid2.N, _)

theorem off2 : ∀ t : Fin cfg2.N, k1_off1 (grid2.coords t) = ![0, (grid2.coords t 1).val * 16, 0] :=
  (by decide +kernel : ∀ t : Fin grid2.N, _)

/-- The image of a point of the grid. -/
def img2 (t : Fin cfg2.N) : Fin 2 := grid2.coords t 0
/-- The block of a point of the grid within its image. -/
def part2 (t : Fin cfg2.N) : Fin 4 := grid2.coords t 1

theorem blk2_0 (t : Fin cfg2.N) (k : Fin 21) (y x : Fin 64) :
    iblk2 V c 0 t (ix4 0 k y x) = V c main_v59 (ix4 (img2 t) k y x) := by
  blk_ext [iblk2, idx2 t, img2]

theorem blk2_1 (t : Fin cfg2.N) (p : Fin 4096) :
    iblk2 V c 1 t (ix3 0 0 p) = V c main_v35_1 (ix3 (img2 t) 0 p) := by
  blk_ext [iblk2, idx2 t, img2]

theorem blk2_2 (t : Fin cfg2.N) (r : Fin 4096) (l : Fin 1024) :
    iblk2 V c 2 t (ix3 0 r l) = V c main_v35_0 (ix3 (img2 t) r (pxS (part2 t) l)) := by
  blk_ext [iblk2, idx2 t, img2, part2, pxS]

theorem blk2_3 (t : Fin cfg2.N) (l : Fin 1024) :
    iblk2 V c 3 t (ix3 0 0 l) = V c main_v35_1 (ix3 (img2 t) 0 (pxS (part2 t) l)) := by
  blk_ext [iblk2, idx2 t, img2, part2, pxS]

theorem blk2_4 (t : Fin cfg2.N) (k : Fin 21) (y : Fin 16) (x : Fin 64) :
    iblk2 V c 4 t (ix4 0 k y x) = V c main_v35_2 (ix4 (img2 t) k (rowS (part2 t) y) x) := by
  blk_ext [iblk2, idx2 t, img2, part2, rowS]

theorem blk2_5 (t : Fin cfg2.N) (y x : Fin 64) : iblk2 V c 5 t (ix2 y x) = V c main_v58 (ix2 y x) := by
  blk_ext [iblk2, idx2 t]

theorem emb2_6 (t : Fin cfg2.N) (k : Fin 21) (y : Fin 16) (x : Fin 64) :
    ((cfg2.win 6).blk t).view.emb (ix4 0 k y x) = ix4 (img2 t) k (rowS (part2 t) y) x := by
  blk_ext [idx2 t, img2, part2, rowS]

/-- The result of the iteration, from the entries of the arrays that it reads. -/
theorem final_step2 (I : Fin 2 → Fin 3 → Px → ℝ) (u q : Fin 2 → Fin 21 → Px → ℝ)
    (hq : ∀ b k y x, (V c main_v59 (ix4 b k y x) : EReal) = (q b k (pix y x) : EReal))
    (hinv : ∀ b p, (V c main_v35_1 (ix3 b 0 p) : EReal) = ((1 / nrm (I b) eps p : ℝ) : EReal))
    (hk : ∀ b r p, (V c main_v35_0 (ix3 b r p) : EReal) = (kern (I b) r p : EReal))
    (hu : ∀ b k y x, (V c main_v35_2 (ix4 b k y x) : EReal) = (u b k (pix y x) : EReal))
    (hA : ∀ y x, (V c main_v58 (ix2 y x) : EReal) = (tap y x : EReal)) :
    (dat2 V c).arrAt 6 cfg2.N
      = fun j : S2x21x64x64.Idx => (step (I (j 0)) eps (u (j 0)) (q (j 0)) (j 1) (pix (j 2) (j 3)) : EReal) := by
  refine (dat2 V c).arrAt_eq_of_covers 6 _ (by decide +kernel) fun t hf y => ?_
  obtain ⟨a, k, y, x, rfl⟩ : ∃ (a : Fin 1) (k : Fin 21) (y' : Fin 16) (x : Fin 64), y = ix4 a k y' x := ⟨_, _, _, _, eq_ix4 y⟩
  obtain rfl : a = 0 := Subsingleton.elim _ _
  rw [emb2_6 t k y x]
  blk_simp
  rw [after2_6]
  unfold outAt2 stepOut
  frame_out
  refine pay_step (I (img2 t)) (u (img2 t)) (q (img2 t)) (part2 t) _ _ (iblk2 V c 5 t) _ _ _ _
    (fun k y x => (blk2_0 V c t k y x).trans (hq _ _ _ _)) (fun p => (blk2_1 V c t p).trans (hinv _ _))
    (fun y x => (blk2_5 V c t y x).trans (hA _ _)) (fun r l => (blk2_2 V c t r l).trans (hk _ _ _))
    (fun l => (blk2_3 V c t l).trans (hinv _ _)) (fun k y x => ?_)
    (fun k y x => (blk2_4 V c t k y x).trans (hu _ _ _ _)) k y x
  exact ld_rows _ _ (part2 t) (off2 t) k y x

end Iteration2

end Cert.KernelIdeal.Hand

end
-- ==== Proof.KerHost.lean ====
module

public import proofs.«01_k».proof.Proof.KernelIdealRun
public import proofs.«01_k».proof.Proof.Lift
public import Idealize.ShloMosaic.Lib.Pointwise
public import Idealize.ShloMosaic.Lib.StableHlo.ReadAt

@[expose] public section

set_option maxRecDepth 16384

noncomputable section

/-! # What the host computes before the pipelines, entry by entry -/

namespace Cert.KernelIdeal.Hand

open Cert.KernelIdeal.Gen
open Idealize.ShloMosaic Idealize.ShloMosaic.TcCoe Idealize.ShloMosaic.StableHlo
open Cert.Crf

variable (V : Valuation τ sig (Elt Ideal))

section Features

/-- What the first `n` operations leave at a place that no later one writes is what all of them leave. -/
theorem upto_end (n : ℕ) (r : Ref sig .tc) (h : r ∉ hostOps0_W.drop n) :
    upto hostOps0 V n (Proc.devRef .tc r) = after hostOps0 V (Proc.devRef .tc r) := by
  have hs : after hostOps0 V = after ((hostOps0 (F := Ideal)).drop n) (upto hostOps0 V n) := by
    conv_lhs => rw [← List.take_append_drop n (hostOps0 (F := Ideal)), after_append]
    rfl
  have hw : (hostOps0 (F := Ideal)).map HloOp.writes = hostOps0_W.map fun w => {Proc.devRef (τ := τ) .tc w} := rfl
  rw [hs]
  exact (after_unwritten (hostOps0_W.drop n) (by rw [List.map_drop, hw, List.map_drop]) h _).symm

/-- The five parts of a pixel's eight numbers, side by side. -/
def cat8 (a : FVec Ideal S2x4096x2 .f32) (b : FVec Ideal S2x4096x3 .f32) (c d e : FVec Ideal S2x4096x1 .f32) :
    FVec Ideal S2x4096x8 .f32 :=
  concatenate S2x4096x8 2 [⟨S2x4096x2, a⟩, ⟨S2x4096x3, b⟩, ⟨S2x4096x1, c⟩, ⟨S2x4096x1, d⟩, ⟨S2x4096x1, e⟩]
    concatenates_S2x4096x2_S2x4096x3_S2x4096x1_S2x4096x1_S2x4096x1_S2x4096x8_d2

theorem cat8_at (a : FVec Ideal S2x4096x2 .f32) (b : FVec Ideal S2x4096x3 .f32) (c d e : FVec Ideal S2x4096x1 .f32)
    (i : Fin 2) (p : Fin 4096) (x : Fin 8) :
    cat8 a b c d e (ix3 i p x) = ![a (ix3 i p 0), a (ix3 i p 1), b (ix3 i p 0), b (ix3 i p 1), b (ix3 i p 2), c (ix3 i p 0),
      d (ix3 i p 0), e (ix3 i p 0)] x := by
  pointwise [cat8]
  fin_cases x <;> rfl

theorem cat8_real (a : FVec Ideal S2x4096x2 .f32) (b : FVec Ideal S2x4096x3 .f32) (c d e : FVec Ideal S2x4096x1 .f32)
    (i : Fin 2) (p : Fin 4096) (v : Fin 8 → ℝ)
    (h0 : (a (ix3 i p 0) : EReal) = (v 0 : EReal)) (h1 : (a (ix3 i p 1) : EReal) = (v 1 : EReal))
    (h2 : (b (ix3 i p 0) : EReal) = (v 2 : EReal)) (h3 : (b (ix3 i p 1) : EReal) = (v 3 : EReal))
    (h4 : (b (ix3 i p 2) : EReal) = (v 4 : EReal)) (h5 : (c (ix3 i p 0) : EReal) = (v 5 : EReal))
    (h6 : (d (ix3 i p 0) : EReal) = (v 6 : EReal)) (h7 : (e (ix3 i p 0) : EReal) = (v 7 : EReal)) (x : Fin 8) :
    (cat8 a b c d e (ix3 i p x) : EReal) = (v x : EReal) := by
  rw [cat8_at]
  fin_cases x
  exacts [h0, h1, h2, h3, h4, h5, h6, h7]

/-- The two parts of a pixel's place, side by side, for every image. -/
def cat2 (a b : FVec Ideal S4096x1 .f32) : FVec Ideal S2x4096x2 .f32 :=
  broadcastInDim S2x4096x2 ![0, 1, 2] bcast_S1x4096x2_S2x4096x2_0_1_2 (broadcastInDim S1x4096x2 ![1, 2] bcast_S4096x2_S1x4096x2_1_2
    (concatenate S4096x2 1 [⟨S4096x1, a⟩, ⟨S4096x1, b⟩] concatenates_S4096x1_S4096x1_S4096x2_d1))

theorem cat2_at (a b : FVec Ideal S4096x1 .f32) (i : Fin 2) (p : Fin 4096) (x : Fin 2) :
    cat2 a b (ix3 i p x) = ![a (ix2 p 0), b (ix2 p 0)] x := by
  pointwise [cat2]
  fin_cases x <;> rfl

theorem host_y (p : Px) : (after hostOps0 V (Proc.devRef .tc main_v21) (ix2 p 0) : EReal) = ((((row p : ℕ) : ℝ) / 70 : ℝ) : EReal) := by
  after_reads_at
  rw [word_70]
  exact (congrArg (Ideal.div · _) (sitofp_ofNat (by omega))).trans (div_coe' (by norm_num) _)

theorem host_x (p : Px) : (after hostOps0 V (Proc.devRef .tc main_v22) (ix2 p 0) : EReal) = ((((col p : ℕ) : ℝ) / 70 : ℝ) : EReal) := by
  after_reads_at
  rw [word_70]
  exact (congrArg (Ideal.div · _) (sitofp_ofNat (by omega))).trans (div_coe' (by norm_num) _)

theorem host_yx (b : Fin 2) (p : Px) (i : Fin 2) :
    (after hostOps0 V (Proc.devRef .tc main_v25) (ix3 b p i) : EReal)
      = ((![((row p : ℕ) : ℝ) / 70, ((col p : ℕ) : ℝ) / 70] i : ℝ) : EReal) := by
  have e : after hostOps0 V (Proc.devRef .tc main_v25)
      = cat2 (upto hostOps0 V 27 (Proc.devRef .tc main_v21)) (upto hostOps0 V 27 (Proc.devRef .tc main_v22)) := by
    after_reads_simp; rfl
  rw [e, upto_end V 27 main_v21 (by decide), upto_end V 27 main_v22 (by decide)]
  refine (cat2_at _ _ b p i).trans ?_
  fin_cases i
  exacts [host_y V p, host_x V p]

variable (I : Fin 2 → Fin 3 → Px → ℝ)
  (hI : ∀ b k p, (V (Proc.devRef .tc main_arg1) (ix4 b k (row p) (col p)) : EReal) = (I b k p : EReal))
include hI

theorem host_rgb (b : Fin 2) (p : Px) (k : Fin 3) :
    (after hostOps0 V (Proc.devRef .tc main_v14) (ix3 b p k) : EReal) = ((I b k p / 12 : ℝ) : EReal) := by
  after_reads_at
  rw [word_12, row_mk, col_mk, hI]
  exact div_coe' (by norm_num) _

theorem host_sq (b : Fin 2) (p : Px) :
    (after hostOps0 V (Proc.devRef .tc main_v20) (ix3 b p 0) : EReal) = (dot (I b) p p : EReal) := by
  after_reads_at
  have hy : (FloatOps.sitofp .f32 (BitVec.ofNat 32 (p.val / 64)) : Ideal .f32) = (((row p : ℕ) : ℝ) : EReal) := sitofp_ofNat (by omega)
  have hx : (FloatOps.sitofp .f32 (BitVec.ofNat 32 (p.val % 64)) : Ideal .f32) = (((col p : ℕ) : ℝ) : EReal) := sitofp_ofNat (by omega)
  simp only [word_70, word_12, row_mk, col_mk, hI, hy, hx, div_coe' (by norm_num : (70 : ℝ) ≠ 0), div_coe' (by norm_num : (12 : ℝ) ≠ 0),
    ← EReal.coe_mul, ← coe_sum, ← EReal.coe_add]
  congr 1
  simp [dot, feat, Fin.sum_univ_succ]; ring

theorem host_half (b : Fin 2) (p : Px) :
    (after hostOps0 V (Proc.devRef .tc main_v28) (ix3 b p 0) : EReal) = ((-(1 / 2) * dot (I b) p p : ℝ) : EReal)
    ∧ (after hostOps0 V (Proc.devRef .tc main_v32) (ix3 b p 0) : EReal) = ((-(1 / 2) * dot (I b) p p : ℝ) : EReal) := by
  rw [EReal.coe_mul, ← word_neg_half, ← host_sq V I hI]
  constructor <;> after_reads_at

omit hI in
theorem host_ones (b : Fin 2) (p : Px) :
    (after hostOps0 V (Proc.devRef .tc main_v26) (ix3 b p 0) : EReal) = ((1 : ℝ) : EReal)
    ∧ (after hostOps0 V (Proc.devRef .tc main_v29) (ix3 b p 0) : EReal) = ((0 : ℝ) : EReal)
    ∧ (after hostOps0 V (Proc.devRef .tc main_v33) (ix3 b p 0) : EReal) = ((0 : ℝ) : EReal) := by
  refine ⟨?_, ?_, ?_⟩ <;> after_reads_at
  exacts [EReal.coe_one.symm, EReal.coe_zero.symm, EReal.coe_zero.symm]

omit hI in
theorem parts_fa : after hostOps0 V (Proc.devRef .tc main_v30)
    = cat8 (upto hostOps0 V 37 (Proc.devRef .tc main_v25)) (upto hostOps0 V 37 (Proc.devRef .tc main_v14))
      (upto hostOps0 V 37 (Proc.devRef .tc main_v28)) (upto hostOps0 V 37 (Proc.devRef .tc main_v26))
      (upto hostOps0 V 37 (Proc.devRef .tc main_v29)) :=
  (after_last_write (i := 37) (hostOps0_W.drop 38) rfl rfl (by decide) V).trans (nary_result ..)

omit hI in
theorem parts_fb : after hostOps0 V (Proc.devRef .tc main_v34)
    = cat8 (upto hostOps0 V 43 (Proc.devRef .tc main_v25)) (upto hostOps0 V 43 (Proc.devRef .tc main_v14))
      (upto hostOps0 V 43 (Proc.devRef .tc main_v26)) (upto hostOps0 V 43 (Proc.devRef .tc main_v32))
      (upto hostOps0 V 43 (Proc.devRef .tc main_v33)) :=
  (after_last_write (i := 43) (hostOps0_W.drop 44) rfl rfl (by decide) V).trans (nary_result ..)

theorem host_fa (b : Fin 2) (p : Px) (x : Fin 8) :
    (after hostOps0 V (Proc.devRef .tc main_v30) (ix3 b p x) : EReal) = (fa (I b) p x : EReal) := by
  rw [parts_fa, upto_end V 37 main_v25 (by decide), upto_end V 37 main_v14 (by decide), upto_end V 37 main_v28 (by decide),
    upto_end V 37 main_v26 (by decide), upto_end V 37 main_v29 (by decide)]
  exact cat8_real _ _ _ _ _ b p (fa (I b) p) (host_yx V b p 0) (host_yx V b p 1) (host_rgb V I hI b p 0) (host_rgb V I hI b p 1)
    (host_rgb V I hI b p 2) (host_half V I hI b p).1 (host_ones V b p).1 (host_ones V b p).2.1 x

theorem host_fb (b : Fin 2) (p : Px) (x : Fin 8) :
    (after hostOps0 V (Proc.devRef .tc main_v34) (ix3 b p x) : EReal) = (fb (I b) p x : EReal) := by
  rw [parts_fb, upto_end V 43 main_v25 (by decide), upto_end V 43 main_v14 (by decide), upto_end V 43 main_v26 (by decide),
    upto_end V 43 main_v32 (by decide), upto_end V 43 main_v33 (by decide)]
  exact cat8_real _ _ _ _ _ b p (fb (I b) p) (host_yx V b p 0) (host_yx V b p 1) (host_rgb V I hI b p 0) (host_rgb V I hI b p 1)
    (host_rgb V I hI b p 2) (host_ones V b p).1 (host_half V I hI b p).2 (host_ones V b p).2.2 x

end Features

theorem host_tap (y x : Fin 64) :
    (after hostOps1_1 (after hostOps1 V) (Proc.devRef .tc main_v58) (ix2 y x) : EReal) = (tap y x : EReal) := by
  after_reads_at
  simp only [sitofp_ofNat (show (x : ℕ) < 2 ^ 31 by omega), sitofp_ofNat (show (y : ℕ) < 2 ^ 31 by omega), word_9, word_18]
  have hk : ∀ k : Fin 19, (FloatOps.sitofp .f32 (BitVec.ofNat 32 k.val) : Ideal .f32) = (((k : ℕ) : ℝ) : EReal) := fun k => sitofp_ofNat (show (k : ℕ) < 2 ^ 31 by omega)
  simp only [hk, absf_coe, ← EReal.coe_mul, ← EReal.coe_sub, ← EReal.coe_neg,
    div_coe' (by norm_num : (18 : ℝ) ≠ 0), exp_coe, ← coe_sum, EReal.coe_le_coe_iff]
  unfold tap off
  split
  · exact div_coe' z1_pos.ne' _
  · exact Ideal.ofBits_zero_f32

end Cert.KernelIdeal.Hand

end
-- ==== Proof.KerValue.lean ====
module

public import proofs.«01_k».proof.Proof.KerBuild
public import proofs.«01_k».proof.Proof.KerStep
public import proofs.«01_k».proof.Proof.KerHost

@[expose] public section

set_option maxRecDepth 16384

noncomputable section

/-! # The kernel's result, from the launch to the return -/

namespace Cert.KernelIdeal.Hand

open Cert.KernelIdeal.Gen
open Idealize.ShloMosaic Idealize.ShloMosaic.TcCoe
open Cert.Crf

variable (m : (ℓ : Loc nD τ sig) → Buf (Elt Ideal) ℓ) (ρ : Dev nD → PrngReg) (c : Dev nD)

/-- The logarithms of the clipped class probabilities. -/
def U (b : Fin 2) (k : Fin 21) (p : Px) : ℝ := logClip (m ((c : Thread nD τ).loc main_arg0) (ix4 b k (row p) (col p)))

theorem U_pix (b : Fin 2) (k : Fin 21) (y x : Fin 64) : U m c b k (pix y x) = logClip (m ((c : Thread nD τ).loc main_arg0) (ix4 b k y x)) := by
  unfold U; rw [row_pix, col_pix]

variable (I : Fin 2 → Fin 3 → Px → ℝ)
  (hI : ∀ b k p, (m ((c : Thread nD τ).loc main_arg1) (ix4 b k (row p) (col p)) : EReal) = (I b k p : EReal))

/-! ## What the second pipeline is entered from -/

/-- An array of the first pipeline that no host operation after it writes. -/
theorem W4_carry (r : Ref sig .tc) (h : r ∉ hostOps1_W) (h' : r ∉ hostOps1_1_W) :
    W4 m ρ c (Proc.devRef .tc r) = W2 m ρ c (Proc.devRef .tc r) :=
  (W4_of m ρ c r h').trans (W3_of m ρ c r h)

include hI

theorem entry_kern (b : Fin 2) (r p : Px) : (W4 m ρ c (Proc.devRef .tc main_v35_0) (ix3 b r p) : EReal) = (kern (I b) r p : EReal) := by
  rw [W4_carry m ρ c main_v35_0 (by decide) (by decide)]
  exact congrFun ((W2_arr m ρ c 3).trans (final_kern (V1 m ρ) c I (host_fa (W0 m ρ c) I hI) (host_fb (W0 m ρ c) I hI))) (ix3 b r p)

theorem entry_inv (b : Fin 2) (p : Px) :
    (W4 m ρ c (Proc.devRef .tc main_v35_1) (ix3 b 0 p) : EReal) = ((1 / nrm (I b) eps p : ℝ) : EReal) := by
  rw [W4_carry m ρ c main_v35_1 (by decide) (by decide)]
  exact congrFun ((W2_arr m ρ c 4).trans (final_inv (V1 m ρ) c I (host_fa (W0 m ρ c) I hI) (host_fb (W0 m ρ c) I hI))) (ix3 b 0 p)

omit hI

theorem entry_arg : V1 m ρ c main_arg0 = m ((c : Thread nD τ).loc main_arg0) := W1_args m ρ c main_arg0 (by decide)

theorem entry_log (b : Fin 2) (k : Fin 21) (y x : Fin 64) :
    (W4 m ρ c (Proc.devRef .tc main_v35_2) (ix4 b k y x) : EReal) = (U m c b k (pix y x) : EReal) := by
  rw [U_pix, W4_carry m ρ c main_v35_2 (by decide) (by decide), ← entry_arg m ρ c]
  exact congrFun ((W2_arr m ρ c 5).trans (final_log (V1 m ρ) c)) (ix4 b k y x)

theorem entry_start (b : Fin 2) (k : Fin 21) (y x : Fin 64) :
    (W4 m ρ c (Proc.devRef .tc main_v35_3) (ix4 b k y x) : EReal) = (start (U m c b) k (pix y x) : EReal) := by
  have h : start (U m c b) k (pix y x) = softmax (fun k => logClip (V1 m ρ c main_arg0 (ix4 b k y x))) k := by
    rw [entry_arg m ρ c]
    exact congrArg (softmax · k) (funext fun k => U_pix m c b k y x)
  rw [h, W4_carry m ρ c main_v35_3 (by decide) (by decide)]
  exact congrFun ((W2_arr m ρ c 6).trans (final_start (V1 m ρ) c)) (ix4 b k y x)

theorem entry_tap (y x : Fin 64) : (W4 m ρ c (Proc.devRef .tc main_v58) (ix2 y x) : EReal) = (tap y x : EReal) :=
  host_tap (W2 m ρ c) y x

include hI

/-! ## The two iterations -/

theorem after_step1 (b : Fin 2) (k : Fin 21) (y x : Fin 64) :
    (W5 m ρ c (Proc.devRef .tc main_v59) (ix4 b k y x) : EReal) = (step (I b) eps (U m c b) (start (U m c b)) k (pix y x) : EReal) :=
  congrFun ((W5_arr m ρ c 6).trans (final_step1 (V4 m ρ) c I (U m c) (fun b => start (U m c b)) (entry_start m ρ c)
    (entry_inv m ρ c I hI) (entry_kern m ρ c I hI) (entry_log m ρ c) (entry_tap m ρ c))) (ix4 b k y x)

/-- The kernel computes the model's inference. -/
theorem at_result (b : Fin 2) (k : Fin 21) (y x : Fin 64) :
    (W6 m ρ c (Proc.devRef .tc main_v60) (ix4 b k y x) : EReal) = (infer (I b) eps (U m c b) k (pix y x) : EReal) := by
  refine congrFun ((W6_arr m ρ c 6).trans (final_step2 (V5 m ρ) c I (U m c) (fun b => step (I b) eps (U m c b) (start (U m c b)))
    (after_step1 m ρ c I hI) (fun b p => ?_) (fun b r p => ?_) (fun b k y x => ?_) (fun y x => ?_))) (ix4 b k y x)
  · exact (congrFun (W5_of m ρ c main_v35_1 (by decide)) _).trans (entry_inv m ρ c I hI b p)
  · exact (congrFun (W5_of m ρ c main_v35_0 (by decide)) _).trans (entry_kern m ρ c I hI b r p)
  · exact (congrFun (W5_of m ρ c main_v35_2 (by decide)) _).trans (entry_log m ρ c b k y x)
  · exact (congrFun (W5_of m ρ c main_v58 (by decide)) _).trans (entry_tap m ρ c y x)

end Cert.KernelIdeal.Hand

end
-- ==== Proof.RefRead.lean ====
module

public import proofs.«01_k».proof.Proof.Gen.ReferenceIdeal.Run
public import proofs.«01_k».proof.Proof.Lift
public import Idealize.ShloMosaic.Lib.Pointwise
public import Idealize.ShloMosaic.Lib.Tactic.CleanTypes

@[expose] public section

set_option maxRecDepth 16384

noncomputable section

/-! # The reference's values, entry by entry

Each named value of the reference's run is a real value of the model, for an image whose channels are real values. -/

namespace Cert.ReferenceIdeal.Value

open Cert.ReferenceIdeal Cert.ReferenceIdeal.Gen Idealize.ShloMosaic Idealize.ShloMosaic.TcCoe Idealize.ShloMosaic.StableHlo Cert.Crf

variable (V : Valuation τ sig (Elt Ideal))

/-! ## The spatial weights -/

theorem at_v20 (p : Fin 4096) : (res_main_v20 V (ix1 p) : EReal) = ((((row p : ℕ) : ℝ)) : EReal) := by
  unfold res_main_v20; clean_types; pointwise
  exact sitofp_ofNat (by omega)

theorem at_v22 (p : Fin 4096) : (res_main_v22 V (ix1 p) : EReal) = ((((col p : ℕ) : ℝ)) : EReal) := by
  unfold res_main_v22; clean_types; pointwise
  exact sitofp_ofNat (by omega)

theorem at_v27 (p q : Fin 4096) : (res_main_v27 V (ix2 p q) : EReal) = ((off (row p) (row q) : ℝ) : EReal) := by
  unfold res_main_v27; clean_types; pointwise
  erw [at_v20, at_v20, ← EReal.coe_sub]; rfl

theorem at_v32 (p q : Fin 4096) : (res_main_v32 V (ix2 p q) : EReal) = ((off (col p) (col q) : ℝ) : EReal) := by
  unfold res_main_v32; clean_types; pointwise
  erw [at_v22, at_v22, ← EReal.coe_sub]; rfl

theorem at_v8 (a b : Fin 19) : (res_main_v8 V (ix2 a b) : EReal) = ((((a : ℕ) : ℝ) - 9 : ℝ) : EReal) := by
  unfold res_main_v8; clean_types; pointwise
  rw [word_9, EReal.coe_sub]; exact congrArg (· - _) (sitofp_ofNat (by omega))

theorem at_v11 (a b : Fin 19) : (res_main_v11 V (ix2 a b) : EReal) = ((((b : ℕ) : ℝ) - 9 : ℝ) : EReal) := by
  unfold res_main_v11; clean_types; pointwise
  rw [word_9, EReal.coe_sub]; exact congrArg (· - _) (sitofp_ofNat (by omega))

/-- The choice between a value and zero by two comparisons. -/
theorem select_two (P Q : Prop) [Decidable P] [Decidable Q] (x y : EReal) :
    (Scalar.select (IntOp.andi (BitVec.ofBool (decide P)) (BitVec.ofBool (decide Q))) x y : EReal)
      = if P ∧ Q then x else y := by
  by_cases h1 : P <;> by_cases h2 : Q <;> simp [h1, h2, Scalar.select, IntOp.andi]

theorem at_v49 (p q : Fin 4096) : (res_main_v49 V (ix2 p q) : EReal) = ((spat p q : ℝ) : EReal) := by
  unfold res_main_v49; clean_types; pointwise
  erw [at_v27 V p q, at_v32 V p q]
  simp only [select_two, at_v8, at_v11, word_9, word_18, absf_coe, ← EReal.coe_mul, ← EReal.coe_add, ← EReal.coe_neg,
    div_coe' (by norm_num : (18 : ℝ) ≠ 0), exp_coe, ← coe_sum, EReal.coe_le_coe_iff]
  unfold spat
  split
  · refine (div_coe' ?_ _).trans rfl
    have := mul_pos z1_pos z1_pos
    rw [← z2_eq] at this
    exact this.ne'
  · exact Ideal.ofBits_zero_f32

/-! ## The bilateral weights -/

variable (I : Fin 2 → Fin 3 → Px → ℝ)
  (hI : ∀ b k p, (V (Proc.devRef .tc main_arg1) (ix4 b k (row p) (col p)) : EReal) = (I b k p : EReal))

/-- The five scales. -/
theorem scales (i : Fin 5) : Ideal.ofBits .f32 (lit0 (S5.rowMajor (ix1 i))) = ((![70, 70, 12, 12, 12] i : ℝ) : EReal) := by
  have e : lit0 (S5.rowMajor (ix1 i)) = ![0x428C0000#32, 0x428C0000#32, 0x41400000#32, 0x41400000#32, 0x41400000#32] i := by
    revert i; decide
  rw [e]
  fin_cases i
  exacts [word_70, word_70, word_12, word_12, word_12]

include hI

theorem at_v57 (b : Fin 2) (p : Fin 4096) (i : Fin 5) : (res_main_v57 V (ix3 b p i) : EReal) = (feat (I b) p i : EReal) := by
  unfold res_main_v57; clean_types; pointwise
  rw [scales]
  fin_cases i
  · exact (congrArg (Ideal.div · _) (sitofp_ofNat (by omega))).trans (div_coe' (by norm_num) _)
  · exact (congrArg (Ideal.div · _) (sitofp_ofNat (by omega))).trans (div_coe' (by norm_num) _)
  · exact (congrArg (Ideal.div · _) (hI b 0 p)).trans (div_coe' (by norm_num) _)
  · exact (congrArg (Ideal.div · _) (hI b 1 p)).trans (div_coe' (by norm_num) _)
  · exact (congrArg (Ideal.div · _) (hI b 2 p)).trans (div_coe' (by norm_num) _)

theorem at_v59 (b : Fin 2) (p : Fin 4096) : (res_main_v59 V (ix2 b p) : EReal) = (dot (I b) p p : EReal) := by
  unfold res_main_v59; clean_types; pointwise
  simp only [at_v57 V I hI, ← EReal.coe_mul, ← coe_sum]; rfl

theorem at_v74 (b : Fin 2) (p q : Fin 4096) : (res_main_v74 V (ix3 b p q) : EReal) = (kern (I b) p q : EReal) := by
  unfold res_main_v74; clean_types; pointwise
  simp only [at_v57 V I hI, at_v59 V I hI, ← EReal.coe_mul, ← coe_sum, word_neg_half, word_2, ← EReal.coe_add, ← EReal.coe_sub,
    ← EReal.coe_zero, ← coe_max, exp_coe]; rfl

theorem at_v79 (b : Fin 2) (p : Fin 4096) : (res_main_v79 V (ix3 0 b p) : EReal) = (nrm (I b) eps p : EReal) := by
  unfold res_main_v79; clean_types; pointwise
  simp only [at_v74 V I hI, ← coe_sum, word_eps.1, ← mass_eq, sqrt_coe (mass_pos _ _).le, ← EReal.coe_add]; rfl

omit hI

/-! ## The iterations -/

/-- The logarithms of the clipped class probabilities. -/
def U (b : Fin 2) (c : Fin 21) (p : Px) : ℝ := logClip (V (Proc.devRef .tc main_arg0) (ix4 b c (row p) (col p)))

theorem at_v81 (b : Fin 2) (c : Fin 21) (p : Px) : (res_main_v81 V (ix4 b c (row p) (col p)) : EReal) = (U V b c p : EReal) := by
  unfold res_main_v81; clean_types; pointwise
  exact (congrArg Ideal.log (congrArg₂ min Ideal.ofBits_one_f32 (congrArg₂ max word_low.1 rfl))).trans (log_clip _)

/-- A softmax with the greatest score taken from bottom twice. -/
theorem softmax_bot (w : Fin 21 → EReal) (z : Fin 21 → ℝ) (h : ∀ k, w k = z k) (c : Fin 21) :
    Ideal.div (Ideal.exp (w c - max ⊥ (Finset.univ.fold max ⊥ w)))
        (∑ k, Ideal.exp (w k - max ⊥ (Finset.univ.fold max ⊥ w))) = (softmax z c : EReal) := by
  rw [max_eq_right bot_le]; exact softmax_coe w z h c

theorem at_v93 (b : Fin 2) (c : Fin 21) (p : Px) : (res_main_v93 V (ix3 b c p) : EReal) = (start (U V b) c p : EReal) := by
  unfold res_main_v93; clean_types; pointwise
  unfold res_main_v88; clean_types; pointwise
  simp only [word_neg_inf, row_mk, col_mk]
  exact softmax_bot _ _ (fun k => at_v81 V b k p) c

include hI

theorem at_v109 (b : Fin 2) (c : Fin 21) (p : Px) :
    (res_main_v109 V (ix4 b c (row p) (col p)) : EReal) = (score (I b) eps (U V b) (start (U V b)) c p : EReal) := by
  unfold res_main_v109; clean_types; pointwise
  simp only [pix_mk, at_v81, at_v93, at_v79 V I hI, at_v74 V I hI, at_v49, word_neg_4, word_2]
  exact score_coe (I b) word_eps.2 (U V b) (start (U V b)) c p

theorem at_v121 (b : Fin 2) (c : Fin 21) (p : Px) :
    (res_main_v121 V (ix3 b c p) : EReal) = (step (I b) eps (U V b) (start (U V b)) c p : EReal) := by
  unfold res_main_v121; clean_types; pointwise
  unfold res_main_v116; clean_types; pointwise
  simp only [word_neg_inf, row_mk, col_mk]
  exact softmax_bot _ _ (fun k => at_v109 V I hI b k p) c

theorem at_v137 (b : Fin 2) (c : Fin 21) (p : Px) :
    (res_main_v137 V (ix4 b c (row p) (col p)) : EReal)
      = (score (I b) eps (U V b) (step (I b) eps (U V b) (start (U V b))) c p : EReal) := by
  unfold res_main_v137; clean_types; pointwise
  simp only [pix_mk, at_v81, at_v121 V I hI, at_v79 V I hI, at_v74 V I hI, at_v49, word_neg_4, word_2]
  exact score_coe (I b) word_eps.2 (U V b) _ c p

/-- The reference's result, the term of its run. -/
def result (V : Valuation τ sig (Elt Ideal)) : FVec Ideal S2x21x64x64 .f32 :=
  Host.divf (res_main_v144 V) (broadcastInDim S2x21x64x64 ![0, 1, 2, 3] bcast_S2x1x64x64_S2x21x64x64_0_1_2_3 (broadcastInDim S2x1x64x64 ![0, 2, 3] bcast_S2x64x64_S2x1x64x64_0_2_3 (Host.reduceAdd (res_main_v144 V) (constant S_ .f32 0x00000000#32) reducesTo_S2x21x64x64_S2x64x64_d1 h_S_)))

/-- The reference computes the model's inference. -/
theorem at_result (b : Fin 2) (c : Fin 21) (p : Px) :
    (result V (ix4 b c (row p) (col p)) : EReal) = (infer (I b) eps (U V b) c p : EReal) := by
  unfold result; clean_types; pointwise
  unfold res_main_v144; clean_types; pointwise
  simp only [word_neg_inf, row_mk, col_mk]
  exact softmax_bot _ _ (fun k => at_v137 V I hI b k p) c

end Cert.ReferenceIdeal.Value

end
-- ==== Proof.Finite.lean ====
module

public import proofs.«01_k».proof.Pre_finite
public import proofs.«01_k».proof.Proof.Model
public import Idealize.ShloMosaic.Lib.ReduceAll
public import Idealize.ShloMosaic.Lib.WordCmp
public import Idealize.ShloMosaic.Lib.Pointwise
public import Idealize.ShloMosaic.Lib.Tactic.CleanTypes

@[expose] public section

set_option maxRecDepth 16384

noncomputable section

/-! # What the precondition says: every channel of the image is a real value -/

namespace Cert.Pre_finite

open Idealize.ShloMosaic Cert.Crf

theorem facts : Facts where
  bcast_S_S2x3x64x64 := by decide
  reducesTo_S2x3x64x64_S_d0_1_2_3 := by decide
  h_S_ := by decide

variable [Facts] (a0 : FVec Ideal S2x21x64x64 .f32) (a1 : FVec Ideal S2x3x64x64 .f32)

theorem real_of_fn (h : fn (F := Ideal) a0 a1 = fun _ => 1#1) (b : Fin 2) (k : Fin 3) (y x : Fin 64) :
    (a1 (ix4 b k y x) : EReal) = ((a1 (ix4 b k y x) : EReal).toReal : EReal) := by
  have h0 := congrFun h ix0
  dsimp only [fn] at h0
  haveI : Subsingleton S_.Idx := ⟨fun a b => funext fun i => i.elim0⟩
  have h1 := Host.reduce_andi_all _ _ _ _ _ h0 (ix4 b k y x)
  obtain ⟨hl, hu⟩ := IntOp.andi_eq_one.1 h1
  have el : Ideal.ofBits .f32 0xFF800000#32 < (a1 (ix4 b k y x) : EReal) := by
    revert hl; clean_types; pointwise; exact (WordCmp.ofBool_decide_eq_one_iff _).1
  have eu : (a1 (ix4 b k y x) : EReal) < Ideal.ofBits .f32 0x7F800000#32 := by
    revert hu; clean_types; pointwise; exact (WordCmp.ofBool_decide_eq_one_iff _).1
  exact (EReal.coe_toReal (ne_top_of_lt eu) (ne_bot_of_gt el)).symm

end Cert.Pre_finite

end
-- ==== Proof.Algebraic.lean ====
module

public import proofs.«01_k».proof.Defs
public import proofs.«01_k».proof.Proof.KerValue
public import proofs.«01_k».proof.Proof.RefRead
public import proofs.«01_k».proof.Proof.Finite

@[expose] public section

noncomputable section

/-! # The kernel and the reference end with one array -/

namespace Cert.Algebraic

open Idealize.ShloMosaic Idealize.SL.Sem Cert.Crf

/-- The two results at an element, from arguments that agree and an image of real values. -/
theorem results_eq [Cert.Pre_finite.Facts]
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hP : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.result (StableHlo.launchContents m' c)
      = Cert.KernelIdeal.Hand.W6 m g c (Proc.devRef .tc Cert.KernelIdeal.main_v60) := by
  have hr : ∀ b k y x, _ = _ := Cert.Pre_finite.real_of_fn _ _ (hP c)
  funext j
  obtain ⟨b, k, y, x, rfl⟩ : ∃ (b : Fin 2) (k : Fin 21) (y x : Fin 64), j = ix4 b k y x := ⟨_, _, _, _, eq_ix4 j⟩
  have hk := Cert.KernelIdeal.Hand.at_result m g c _ (fun b k p => hr b k (row p) (col p)) b k y x
  have hf := Cert.ReferenceIdeal.Value.at_result (StableHlo.launchContents m' c) _
    (fun b k p => (congrFun h1 _).trans (hr b k (row p) (col p))) b k (pix y x)
  have hU : Cert.ReferenceIdeal.Value.U (StableHlo.launchContents m' c) b = Cert.KernelIdeal.Hand.U m c b :=
    funext fun k => funext fun p => congrArg logClip (congrFun h0 (ix4 b k (row p) (col p)))
  rw [row_pix, col_pix, hU] at hf
  exact hf.trans hk.symm

theorem algebraic [Cert.Pre_finite.Facts] : Cert.algebraic_KernelIdeal_ReferenceIdeal_pre_finite := fun m g m' g' hP hA =>
  ⟨fun c => Cert.KernelIdeal.Hand.W6 m g c (Proc.devRef .tc Cert.KernelIdeal.main_v60),
    (θ_run _ _ _).mono (fun _ h => h.1) (Cert.KernelIdeal.Hand.run m g),
    (θ_run _ _ _).mono (fun _ h c => ⟨(h c).1.trans (results_eq m g m' hP c (hA c).1 (hA c).2), (h c).2⟩)
      (Cert.ReferenceIdeal.Value.run m' g')⟩

end Cert.Algebraic

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite.facts,
    Cert.Frames.kernel, Cert.Frames.kernelIdeal, fun m ρ _ => Cert.Frames.kernelIdeal m ρ trivial,
    Cert.Frames.referenceIdeal, fun m ρ _ => Cert.Frames.referenceIdeal m ρ trivial, trivial,
    haveI := Cert.Pre_finite.facts; Cert.Algebraic.algebraic⟩

end Cert.Proof

end
